-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x200x151 : Shape := ⟨3, ![64, 200, 151]⟩
abbrev S64x200x4 : Shape := ⟨3, ![64, 200, 4]⟩
abbrev S64x200 : Shape := ⟨2, ![64, 200]⟩
abbrev S151x64x200 : Shape := ⟨3, ![151, 64, 200]⟩
abbrev S64x4x200 : Shape := ⟨3, ![64, 4, 200]⟩
abbrev S16x200 : Shape := ⟨2, ![16, 200]⟩
abbrev S1x3 : Shape := ⟨2, ![1, 3]⟩
abbrev S151x16x200 : Shape := ⟨3, ![151, 16, 200]⟩
abbrev S16x4x200 : Shape := ⟨3, ![16, 4, 200]⟩
abbrev S8x16x200 : Shape := ⟨3, ![8, 16, 200]⟩
abbrev S1x16x200 : Shape := ⟨3, ![1, 16, 200]⟩
abbrev S7x16x200 : Shape := ⟨3, ![7, 16, 200]⟩
abbrev S16x1x200 : Shape := ⟨3, ![16, 1, 200]⟩
abbrev S1 : Shape := ⟨1, ![1]⟩
abbrev S1x1x1 : Shape := ⟨3, ![1, 1, 1]⟩

abbrev nBuf : Space → Nat
  | .hbm => 12
  | .vmem => 13
  | .smem => 0
  | _ => 0

abbrev bufTy : (tb : Table) → Fin (tcTables nBuf tb) → BufTy
  | .hbm, ⟨0, _⟩ => ⟨S64x200x151, .f32⟩
  | .hbm, ⟨1, _⟩ => ⟨S64x200x4, .f32⟩
  | .hbm, ⟨2, _⟩ => ⟨S64x200x4, .f32⟩
  | .hbm, ⟨3, _⟩ => ⟨S64x200, .i32⟩
  | .hbm, ⟨4, _⟩ => ⟨S151x64x200, .f32⟩
  | .hbm, ⟨5, _⟩ => ⟨S64x4x200, .f32⟩
  | .hbm, ⟨6, _⟩ => ⟨S64x4x200, .f32⟩
  | .hbm, ⟨7, _⟩ => ⟨S16x200, .f32⟩
  | .hbm, ⟨8, _⟩ => ⟨S16x200, .f32⟩
  | .hbm, ⟨9, _⟩ => ⟨S16x200, .f32⟩
  | .hbm, ⟨10, _⟩ => ⟨S16x200, .f32⟩
  | .hbm, ⟨11, _⟩ => ⟨S1x3, .f32⟩
  | .local _ .vmem, ⟨0, _⟩ => ⟨S151x16x200, .f32⟩
  | .local _ .vmem, ⟨1, _⟩ => ⟨S151x16x200, .f32⟩
  | .local _ .vmem, ⟨2, _⟩ => ⟨S16x200, .i32⟩
  | .local _ .vmem, ⟨3, _⟩ => ⟨S16x200, .i32⟩
  | .local _ .vmem, ⟨4, _⟩ => ⟨S16x4x200, .f32⟩
  | .local _ .vmem, ⟨5, _⟩ => ⟨S16x4x200, .f32⟩
  | .local _ .vmem, ⟨6, _⟩ => ⟨S16x4x200, .f32⟩
  | .local _ .vmem, ⟨7, _⟩ => ⟨S16x4x200, .f32⟩
  | .local _ .vmem, ⟨8, _⟩ => ⟨S16x200, .f32⟩
  | .local _ .vmem, ⟨9, _⟩ => ⟨S16x200, .f32⟩
  | .local _ .vmem, ⟨10, _⟩ => ⟨S16x200, .f32⟩
  | .local _ .vmem, ⟨11, _⟩ => ⟨S16x200, .f32⟩
  | .local _ .vmem, ⟨12, _⟩ => ⟨S1x3, .f32⟩
  | _, _ => ⟨S64x200x151, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v758 : BitVec 1 := Scalar.cmpi .eq arg0 c3_i32
  let v759 : BitVec 32 := Scalar.extui v758
  let c0_i32_250 : BitVec 32 := 0#32
  let v760 : BitVec 1 := Scalar.cmpi .ne v759 c0_i32_250
  v760

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S151x16x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S64x200x151 : Shape := ⟨3, ![64, 200, 151]⟩
abbrev S64x200x4 : Shape := ⟨3, ![64, 200, 4]⟩
abbrev S64x200 : Shape := ⟨2, ![64, 200]⟩
abbrev S64x200x1 : Shape := ⟨3, ![64, 200, 1]⟩
abbrev S1x1x152 : Shape := ⟨3, ![1, 1, 152]⟩
abbrev S64x200x152 : Shape := ⟨3, ![64, 200, 152]⟩
abbrev S_ : Shape := ⟨0, ![]⟩
abbrev S64x151 : Shape := ⟨2, ![64, 151]⟩
abbrev S64x200x2 : Shape := ⟨3, ![64, 200, 2]⟩
abbrev S1 : Shape := ⟨1, ![1]⟩
abbrev S3 : Shape := ⟨1, ![3]⟩
abbrev S1x3 : Shape := ⟨2, ![1, 3]⟩

abbrev nBuf : Space → Nat
  | .hbm => 202
  | .vmem => 0
  | .smem => 0
  | _ => 0

abbrev hbmTy0_0 (i : Nat) : BufTy := match i % 128 with
  | 0 => ⟨S64x200x151, .f32⟩
  | 1 => ⟨S64x200x4, .f32⟩
  | 2 => ⟨S64x200x4, .f32⟩
  | 3 => ⟨S64x200, .i32⟩
  | 4 => ⟨S64x200x1, .i32⟩
  | 5 => ⟨S1x1x152, .i32⟩
  | 6 => ⟨S64x200x152, .i32⟩
  | 7 => ⟨S64x200x152, .i32⟩
  | 8 => ⟨S64x200x152, .i1⟩
  | 9 => ⟨S64x200x152, .f32⟩
  | 10 => ⟨S64x200x151, .f32⟩
  | 11 => ⟨S_, .i32⟩
  | 12 => ⟨S64x200, .i32⟩
  | 13 => ⟨S64x200, .i1⟩
  | 14 => ⟨S64x200, .f32⟩
  | 15 => ⟨S_, .f32⟩
  | 16 => ⟨S_, .f32⟩
  | 17 => ⟨S_, .f32⟩
  | 18 => ⟨S_, .f32⟩
  | 19 => ⟨S64x200x151, .f32⟩
  | 20 => ⟨S64x200x151, .f32⟩
  | 21 => ⟨S_, .f32⟩
  | 22 => ⟨S64x200x151, .f32⟩
  | 23 => ⟨S64x200x151, .f32⟩
  | 24 => ⟨S_, .f32⟩
  | 25 => ⟨S64x200x151, .f32⟩
  | 26 => ⟨S64x200x151, .f32⟩
  | 27 => ⟨S_, .f32⟩
  | 28 => ⟨S64x200x151, .f32⟩
  | 29 => ⟨S64x200x151, .f32⟩
  | 30 => ⟨S64x200x151, .f32⟩
  | 31 => ⟨S64x200x151, .f32⟩
  | 32 => ⟨S64x200x151, .f32⟩
  | 33 => ⟨S64x200x151, .f32⟩
  | 34 => ⟨S64x200x151, .f32⟩
  | 35 => ⟨S64x200x151, .f32⟩
  | 36 => ⟨S64x200x151, .f32⟩
  | 37 => ⟨S64x200x151, .f32⟩
  | 38 => ⟨S_, .f32⟩
  | 39 => ⟨S64x200x151, .f32⟩
  | 40 => ⟨S64x200x151, .f32⟩
  | 41 => ⟨S_, .f32⟩
  | 42 => ⟨S64x200x151, .f32⟩
  | 43 => ⟨S64x200x151, .f32⟩
  | 44 => ⟨S64x200x151, .f32⟩
  | 45 => ⟨S64x200x151, .f32⟩
  | 46 => ⟨S_, .f32⟩
  | 47 => ⟨S64x200x151, .f32⟩
  | 48 => ⟨S64x200x151, .f32⟩
  | 49 => ⟨S_, .f32⟩
  | 50 => ⟨S64x200x151, .f32⟩
  | 51 => ⟨S64x200x151, .f32⟩
  | 52 => ⟨S64x200x151, .f32⟩
  | 53 => ⟨S_, .f32⟩
  | 54 => ⟨S64x200x151, .f32⟩
  | 55 => ⟨S64x200x151, .f32⟩
  | 56 => ⟨S_, .f32⟩
  | 57 => ⟨S64x200x151, .f32⟩
  | 58 => ⟨S64x200x151, .f32⟩
  | 59 => ⟨S_, .f32⟩
  | 60 => ⟨S64x200x151, .f32⟩
  | 61 => ⟨S64x200x151, .f32⟩
  | 62 => ⟨S64x200x151, .f32⟩
  | 63 => ⟨S64x200x151, .f32⟩
  | 64 => ⟨S_, .f32⟩
  | 65 => ⟨S64x151, .f32⟩
  | 66 => ⟨S_, .f32⟩
  | 67 => ⟨S64x151, .f32⟩
  | 68 => ⟨S64x151, .f32⟩
  | 69 => ⟨S_, .f32⟩
  | 70 => ⟨S_, .f32⟩
  | 71 => ⟨S_, .f32⟩
  | 72 => ⟨S_, .f32⟩
  | 73 => ⟨S_, .f32⟩
  | 74 => ⟨S64x200x4, .f32⟩
  | 75 => ⟨S64x200x4, .f32⟩
  | 76 => ⟨S_, .f32⟩
  | 77 => ⟨S64x200, .f32⟩
  | 78 => ⟨S64x200, .f32⟩
  | 79 => ⟨S_, .f32⟩
  | 80 => ⟨S_, .f32⟩
  | 81 => ⟨S_, .f32⟩
  | 82 => ⟨S64x200x1, .f32⟩
  | 83 => ⟨S64x200x1, .f32⟩
  | 84 => ⟨S64x200x1, .f32⟩
  | 85 => ⟨S64x200x1, .f32⟩
  | 86 => ⟨S_, .f32⟩
  | 87 => ⟨S64x200x1, .f32⟩
  | 88 => ⟨S64x200x1, .f32⟩
  | 89 => ⟨S64x200x1, .f32⟩
  | 90 => ⟨S_, .f32⟩
  | 91 => ⟨S64x200x1, .f32⟩
  | 92 => ⟨S64x200x1, .f32⟩
  | 93 => ⟨S64x200x1, .f32⟩
  | 94 => ⟨S_, .f32⟩
  | 95 => ⟨S64x200x1, .f32⟩
  | 96 => ⟨S64x200x1, .f32⟩
  | 97 => ⟨S64x200x1, .f32⟩
  | 98 => ⟨S_, .f32⟩
  | 99 => ⟨S64x200x1, .f32⟩
  | 100 => ⟨S64x200x1, .f32⟩
  | 101 => ⟨S64x200x1, .f32⟩
  | 102 => ⟨S64x200x4, .f32⟩
  | 103 => ⟨S64x200x1, .f32⟩
  | 104 => ⟨S64x200x1, .f32⟩
  | 105 => ⟨S64x200x1, .f32⟩
  | 106 => ⟨S64x200x1, .f32⟩
  | 107 => ⟨S_, .f32⟩
  | 108 => ⟨S64x200x1, .f32⟩
  | 109 => ⟨S64x200x1, .f32⟩
  | 110 => ⟨S64x200x1, .f32⟩
  | 111 => ⟨S_, .f32⟩
  | 112 => ⟨S64x200x1, .f32⟩
  | 113 => ⟨S64x200x1, .f32⟩
  | 114 => ⟨S64x200x1, .f32⟩
  | 115 => ⟨S_, .f32⟩
  | 116 => ⟨S64x200x1, .f32⟩
  | 117 => ⟨S64x200x1, .f32⟩
  | 118 => ⟨S64x200x1, .f32⟩
  | 119 => ⟨S_, .f32⟩
  | 120 => ⟨S64x200x1, .f32⟩
  | 121 => ⟨S64x200x1, .f32⟩
  | 122 => ⟨S64x200x1, .f32⟩
  | 123 => ⟨S64x200x4, .f32⟩
  | 124 => ⟨S64x200x1, .f32⟩
  | 125 => ⟨S64x200, .f32⟩
  | 126 => ⟨S64x200x1, .f32⟩
  | 127 => ⟨S64x200, .f32⟩
  | _ => ⟨S64x200x151, .f32⟩

abbrev hbmTy0_1 (i : Nat) : BufTy := match i % 128 with
  | 0 => ⟨S64x200, .f32⟩
  | 1 => ⟨S64x200x1, .f32⟩
  | 2 => ⟨S64x200, .f32⟩
  | 3 => ⟨S64x200x1, .f32⟩
  | 4 => ⟨S64x200, .f32⟩
  | 5 => ⟨S64x200, .f32⟩
  | 6 => ⟨S64x200, .f32⟩
  | 7 => ⟨S64x200x1, .f32⟩
  | 8 => ⟨S64x200, .f32⟩
  | 9 => ⟨S64x200x1, .f32⟩
  | 10 => ⟨S64x200, .f32⟩
  | 11 => ⟨S64x200, .f32⟩
  | 12 => ⟨S64x200x1, .f32⟩
  | 13 => ⟨S64x200, .f32⟩
  | 14 => ⟨S64x200x1, .f32⟩
  | 15 => ⟨S64x200, .f32⟩
  | 16 => ⟨S64x200, .f32⟩
  | 17 => ⟨S64x200, .f32⟩
  | 18 => ⟨S64x200x2, .f32⟩
  | 19 => ⟨S64x200x2, .f32⟩
  | 20 => ⟨S64x200x2, .f32⟩
  | 21 => ⟨S64x200x2, .f32⟩
  | 22 => ⟨S64x200x2, .f32⟩
  | 23 => ⟨S64x200x2, .f32⟩
  | 24 => ⟨S64x200x2, .f32⟩
  | 25 => ⟨S_, .f32⟩
  | 26 => ⟨S_, .f32⟩
  | 27 => ⟨S64x200x2, .f32⟩
  | 28 => ⟨S64x200x2, .f32⟩
  | 29 => ⟨S64x200x1, .f32⟩
  | 30 => ⟨S64x200, .f32⟩
  | 31 => ⟨S64x200x1, .f32⟩
  | 32 => ⟨S64x200, .f32⟩
  | 33 => ⟨S64x200, .f32⟩
  | 34 => ⟨S64x200, .f32⟩
  | 35 => ⟨S64x200, .f32⟩
  | 36 => ⟨S_, .f32⟩
  | 37 => ⟨S64x200, .f32⟩
  | 38 => ⟨S64x200, .f32⟩
  | 39 => ⟨S64x200, .f32⟩
  | 40 => ⟨S64x200x2, .f32⟩
  | 41 => ⟨S64x200x2, .f32⟩
  | 42 => ⟨S64x200x2, .f32⟩
  | 43 => ⟨S64x200x2, .f32⟩
  | 44 => ⟨S64x200x2, .f32⟩
  | 45 => ⟨S64x200x2, .f32⟩
  | 46 => ⟨S64x200x2, .f32⟩
  | 47 => ⟨S_, .f32⟩
  | 48 => ⟨S_, .f32⟩
  | 49 => ⟨S64x200x2, .f32⟩
  | 50 => ⟨S64x200x2, .f32⟩
  | 51 => ⟨S64x200x1, .f32⟩
  | 52 => ⟨S64x200, .f32⟩
  | 53 => ⟨S64x200x1, .f32⟩
  | 54 => ⟨S64x200, .f32⟩
  | 55 => ⟨S64x200, .f32⟩
  | 56 => ⟨S64x200, .f32⟩
  | 57 => ⟨S_, .f32⟩
  | 58 => ⟨S64x200, .f32⟩
  | 59 => ⟨S64x200, .f32⟩
  | 60 => ⟨S64x200, .f32⟩
  | 61 => ⟨S64x200, .f32⟩
  | 62 => ⟨S_, .f32⟩
  | 63 => ⟨S64x200, .f32⟩
  | 64 => ⟨S64x200, .f32⟩
  | 65 => ⟨S64x200, .f32⟩
  | 66 => ⟨S_, .f32⟩
  | 67 => ⟨S_, .f32⟩
  | 68 => ⟨S_, .f32⟩
  | 69 => ⟨S1, .f32⟩
  | 70 => ⟨S1, .f32⟩
  | 71 => ⟨S1, .f32⟩
  | 72 => ⟨S3, .f32⟩
  | 73 => ⟨S1x3, .f32⟩
  | _ => ⟨S64x200x151, .f32⟩

abbrev hbmTy (i : Nat) : BufTy := match i / 128 with
  | 0 => hbmTy0_0 i
  | 1 => hbmTy0_1 i
  | _ => ⟨S64x200x151, .f32⟩

abbrev bufTy : (tb : Table) → Fin (tcTables nBuf tb) → BufTy
  | .hbm, ⟨i, _⟩ => hbmTy i
  | _, _ => ⟨S64x200x151, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_17 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_18 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_19 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_20 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_21 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_22 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_23 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_24 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_25 : Ref sig .tc := ⟨.hbm, 153, rfl⟩
abbrev main_call1_v0 : Ref sig .tc := ⟨.hbm, 154, rfl⟩
abbrev main_call1_v1 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_26 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_27 : Ref sig .tc := ⟨.hbm, 175, rfl⟩
abbrev main_call2_v0 : Ref sig .tc := ⟨.hbm, 176, rfl⟩
abbrev main_call2_v1 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_28 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_29 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_30 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩

abbrev nD : Nat := 1
abbrev τ : Topo := Topo.v7x

variable {F : FTy → Type} [FloatOps F]
-- ==== Proof.Scalar.lean ====
/- The focal loss of one (logit, class) pair over the extended reals: the form the kernel evaluates and the form the
   reference evaluates are the same number, and that number is never negative. -/
module

public import Idealize.ShloMosaic.Lib.Pointwise
public import Idealize.ShloMosaic.Lib.IdealHost

@[expose] public section

noncomputable section

namespace Cert.Loss

open Idealize.ShloMosaic

/-! ## The constants the programs name -/

/-- The pattern `0x3E800000` is the real number one quarter. -/
theorem quarter : Ideal.ofBits .f32 0x3E800000#32 = (((1 : ℝ) / 4 : ℝ) : EReal) := by
  simp [Ideal.ofBits, Ideal.ieee, -EReal.coe_mul]; norm_num

/-- The pattern `0x3F400000` is the real number three quarters. -/
theorem threeQuarters : Ideal.ofBits .f32 0x3F400000#32 = (((3 : ℝ) / 4 : ℝ) : EReal) := by
  simp [Ideal.ofBits, Ideal.ieee, -EReal.coe_mul]; norm_num

/-- The pattern `0x40000000` is the real number two. -/
theorem two : Ideal.ofBits .f32 0x40000000#32 = ((2 : ℝ) : EReal) := by
  simp [Ideal.ofBits, Ideal.ieee, -EReal.coe_mul]; norm_num

/-- The pattern `0x43480000` is the real number two hundred. -/
theorem twoHundred : Ideal.ofBits .f32 0x43480000#32 = ((200 : ℝ) : EReal) := by
  simp [Ideal.ofBits, Ideal.ieee, -EReal.coe_mul]; norm_num

/-! ## The two parts of the term -/

/-- The softplus `max y 0 + log (1 + e^z)`, where `z` stands for `-|y|`. -/
def softplus (y z : EReal) : EReal := max y 0 + Ideal.log1p (Ideal.exp z)

/-- The gate: `1 / (1 + e^z)` where `y` is not negative and one minus that where it is. -/
def gate (y z : EReal) : EReal :=
  if 0 ≤ y then Ideal.div 1 (1 + Ideal.exp z) else 1 - Ideal.div 1 (1 + Ideal.exp z)

/-- The focal term of a logit `x` as the kernel evaluates it; the bit `t` says whether this class is the target. -/
def focal (t : BitVec 1) (x : EReal) : EReal :=
  Scalar.select t (Ideal.ofBits .f32 0x3E800000#32) (Ideal.ofBits .f32 0x3F400000#32)
    * softplus (Scalar.select t (0 - x) x) (min x (0 - x))
    * gate (Scalar.select t (0 - x) x) (min x (0 - x))
    * gate (Scalar.select t (0 - x) x) (min x (0 - x))

/-- The focal term as the reference evaluates it, from the target as a number `T`. -/
def focalRef (T x : EReal) : EReal :=
  (Ideal.ofBits .f32 0x3E800000#32 * T + Ideal.ofBits .f32 0x3F400000#32 * (1 - T))
    * ((max x 0 - x * T + Ideal.log1p (Ideal.exp (-max x (-x))))
      * Ideal.pow (1 - (Ideal.div 1 (1 + Ideal.exp (-x)) * T + (1 - Ideal.div 1 (1 + Ideal.exp (-x))) * (1 - T)))
          (Ideal.ofBits .f32 0x40000000#32))

/-! ## Values at real numbers -/

/-- `1 / (1 + e^r)` at a real `r` is that real number. -/
theorem div_one_add_exp (r : ℝ) : Ideal.div 1 (1 + Ideal.exp (r : EReal)) = ((1 / (1 + Real.exp r) : ℝ) : EReal) := by
  have hp : (0 : ℝ) < 1 + Real.exp r := by positivity
  have h : (1 : EReal) + Ideal.exp (r : EReal) = ((1 + Real.exp r : ℝ) : EReal) := by
    rw [EReal.coe_add, EReal.coe_one]; rfl
  rw [h, Ideal.div, if_neg (by exact_mod_cast hp.ne'), ← EReal.coe_inv, one_mul, one_div]

/-- `log (1 + e^r)` at a real `r` is that real number. -/
theorem log1p_exp (r : ℝ) : Ideal.log1p (Ideal.exp (r : EReal)) = ((Real.log (1 + Real.exp r) : ℝ) : EReal) := by
  have hp : (0 : ℝ) < 1 + Real.exp r := by positivity
  have h : (1 : EReal) + Ideal.exp (r : EReal) = ((1 + Real.exp r : ℝ) : EReal) := by
    rw [EReal.coe_add, EReal.coe_one]; rfl
  rw [Ideal.log1p, h]
  show (if 1 + Real.exp r ≤ 0 then (⊥ : EReal) else _) = _
  rw [if_neg (not_le.mpr hp)]

/-- The larger of two reals, seen in the extended reals. -/
theorem coe_max' (a b : ℝ) : max (a : EReal) (b : EReal) = ((max a b : ℝ) : EReal) :=
  (EReal.coe_strictMono.monotone.map_max).symm

/-- The smaller of two reals, seen in the extended reals. -/
theorem coe_min' (a b : ℝ) : min (a : EReal) (b : EReal) = ((min a b : ℝ) : EReal) :=
  (EReal.coe_strictMono.monotone.map_min).symm

/-- The square of a real number as the power with exponent two. -/
theorem pow_two (r : ℝ) : Ideal.pow (r : EReal) (Ideal.ofBits .f32 0x40000000#32) = ((r * r : ℝ) : EReal) := by
  rw [two]
  show ((Real.rpow r 2 : ℝ) : EReal) = _
  congr 1
  show r ^ (2 : ℝ) = r * r
  rw [Real.rpow_two, sq]

/-- The softplus at a real number. -/
theorem softplus_coe (y z : ℝ) : softplus y z = ((max y 0 + Real.log (1 + Real.exp z) : ℝ) : EReal) := by
  rw [softplus, log1p_exp, ← EReal.coe_zero, coe_max', ← EReal.coe_add]

/-- The gate at a real number is the logistic function, whatever the sign. -/
theorem gate_coe (y : ℝ) : gate y ((min y (-y) : ℝ) : EReal) = ((1 / (1 + Real.exp (-y)) : ℝ) : EReal) := by
  have hp : (0 : ℝ) < Real.exp y := Real.exp_pos y
  rw [gate, div_one_add_exp]
  split_ifs with h
  · have h' : (0 : ℝ) ≤ y := by exact_mod_cast h
    rw [min_eq_right (by linarith)]
  · have h' : y < 0 := by
      have := not_le.mp h
      exact_mod_cast this
    rw [min_eq_left (by linarith), ← EReal.coe_one, ← EReal.coe_sub]
    congr 1
    rw [Real.exp_neg]
    field_simp
    ring

/-! ## The two forms agree -/

/-- At a real logit with the class not the target. -/
theorem focal_zero_coe (r : ℝ) : focal 0#1 (r : EReal)
    = ((3 / 4 * (max r 0 + Real.log (1 + Real.exp (min r (-r)))) * (1 / (1 + Real.exp (-r))) * (1 / (1 + Real.exp (-r))) : ℝ) : EReal) := by
  have h0 : (0 : EReal) - (r : EReal) = ((-r : ℝ) : EReal) := by rw [zero_sub, EReal.coe_neg]
  have hs : ∀ a b : EReal, Scalar.select 0#1 a b = b := fun a b => if_neg (by decide)
  rw [focal, h0, hs, hs, coe_min', softplus_coe, gate_coe, threeQuarters, ← EReal.coe_mul, ← EReal.coe_mul, ← EReal.coe_mul]

/-- At a real logit with the class the target: the other sign of the logit. -/
theorem focal_one_coe (r : ℝ) : focal 1#1 (r : EReal)
    = ((1 / 4 * (max (-r) 0 + Real.log (1 + Real.exp (min r (-r)))) * (1 / (1 + Real.exp r)) * (1 / (1 + Real.exp r)) : ℝ) : EReal) := by
  have h0 : (0 : EReal) - (r : EReal) = ((-r : ℝ) : EReal) := by rw [zero_sub, EReal.coe_neg]
  have hs : ∀ a b : EReal, Scalar.select 1#1 a b = a := fun a b => if_pos (by decide)
  have hg : gate ((-r : ℝ) : EReal) ((min r (-r) : ℝ) : EReal) = ((1 / (1 + Real.exp r) : ℝ) : EReal) := by
    have := gate_coe (-r)
    rwa [neg_neg, min_comm] at this
  rw [focal, h0, hs, hs, coe_min', softplus_coe, hg, quarter, ← EReal.coe_mul, ← EReal.coe_mul, ← EReal.coe_mul]

/-- `-|r|` written with the minimum. -/
theorem neg_abs_coe (r : ℝ) : -max (r : EReal) (-(r : EReal)) = ((min r (-r) : ℝ) : EReal) := by
  rw [← EReal.coe_neg, coe_max', ← EReal.coe_neg]
  congr 1
  rw [← min_neg_neg, neg_neg, min_comm]

/-- The reference's form at a real logit and a real target number. -/
theorem focalRef_coe (T r : ℝ) : focalRef (T : EReal) (r : EReal)
    = (((1 / 4 * T + 3 / 4 * (1 - T)) * ((max r 0 - r * T + Real.log (1 + Real.exp (min r (-r))))
        * ((1 - (1 / (1 + Real.exp (-r)) * T + (1 - 1 / (1 + Real.exp (-r))) * (1 - T)))
          * (1 - (1 / (1 + Real.exp (-r)) * T + (1 - 1 / (1 + Real.exp (-r))) * (1 - T))))) : ℝ) : EReal) := by
  rw [focalRef, neg_abs_coe, log1p_exp, ← EReal.coe_neg, div_one_add_exp, quarter, threeQuarters, ← EReal.coe_zero,
    coe_max', ← EReal.coe_one]
  simp only [← EReal.coe_mul, ← EReal.coe_sub, ← EReal.coe_add]
  rw [pow_two]
  simp only [← EReal.coe_mul]

/-! ### At the infinities -/

/-- `log (1 + 0)` is zero. -/
theorem log1p_zero : Ideal.log1p 0 = 0 := by
  rw [Ideal.log1p, add_zero, ← EReal.coe_one]
  show (if (1 : ℝ) ≤ 0 then (⊥ : EReal) else ((Real.log 1 : ℝ) : EReal)) = 0
  rw [if_neg (by norm_num), Real.log_one, EReal.coe_zero]

/-- `e^(-∞)` is zero. -/
theorem exp_bot : Ideal.exp ⊥ = 0 := rfl

/-- `e^(+∞)` is `+∞`. -/
theorem exp_top : Ideal.exp ⊤ = ⊤ := rfl

/-- One divided by one. -/
theorem div_one_one : Ideal.div 1 1 = 1 := by
  rw [Ideal.div, if_neg one_ne_zero, one_mul]
  exact_mod_cast (EReal.coe_inv 1).symm.trans (by norm_num)

/-- One divided by `+∞`. -/
theorem div_one_top : Ideal.div 1 ⊤ = 0 := by
  rw [Ideal.div, if_neg EReal.top_ne_zero, EReal.inv_top, mul_zero]

/-- One minus one. -/
theorem one_sub_one : (1 : EReal) - 1 = 0 := by
  rw [← EReal.coe_one, ← EReal.coe_sub, sub_self, EReal.coe_zero]

/-- The square of one. -/
theorem pow_two_one : Ideal.pow 1 (Ideal.ofBits .f32 0x40000000#32) = 1 := by
  rw [← EReal.coe_one, pow_two, mul_one]

/-- The square of zero. -/
theorem pow_two_zero : Ideal.pow 0 (Ideal.ofBits .f32 0x40000000#32) = 0 := by
  rw [← EReal.coe_zero, pow_two, mul_zero]

/-- The gate at `+∞` is one. -/
theorem gate_top : gate ⊤ ⊥ = 1 := by
  rw [gate, if_pos le_top, exp_bot, add_zero, div_one_one]

/-- The softplus at `+∞` is `+∞`. -/
theorem softplus_top : softplus ⊤ ⊥ = ⊤ := by
  rw [softplus, exp_bot, log1p_zero, add_zero, max_eq_left le_top]

/-- The softplus at `-∞` is zero. -/
theorem softplus_bot : softplus ⊥ ⊥ = 0 := by
  rw [softplus, exp_bot, log1p_zero, add_zero, max_eq_right bot_le]

/-- The kernel's focal term is the reference's, for every extended-real logit, where the class is not the target. -/
theorem focal_zero (x : EReal) : focal 0#1 x = focalRef 0 x := by
  have hs : ∀ a b : EReal, Scalar.select 0#1 a b = b := fun a b => if_neg (by decide)
  induction x with
  | bot =>
    rw [focal, hs, hs, min_eq_left bot_le, softplus_bot, mul_zero, zero_mul, zero_mul]
    rw [focalRef, mul_zero, mul_zero, EReal.neg_bot, max_eq_right bot_le, max_eq_right bot_le, EReal.neg_top, exp_bot, log1p_zero,
      add_zero, sub_zero, sub_zero, zero_mul, mul_zero]
  | top =>
    have hc : (0 : EReal) - ⊤ = ⊥ := by rw [zero_sub, EReal.neg_top]
    rw [focal, hs, hs, hc, min_eq_right bot_le, softplus_top, gate_top, mul_one, mul_one]
    rw [focalRef, mul_zero, mul_zero, mul_zero, EReal.neg_top, max_eq_left le_top, max_eq_left bot_le, EReal.neg_top, exp_bot,
      log1p_zero, add_zero, add_zero, sub_zero, sub_zero, div_one_one, one_sub_one, zero_mul, add_zero, sub_zero, pow_two_one,
      mul_one, mul_one, zero_add]
  | coe r =>
    rw [focal_zero_coe, ← EReal.coe_zero, focalRef_coe]
    congr 1
    ring

/-- The kernel's focal term is the reference's, for every extended-real logit, where the class is the target. -/
theorem focal_one (x : EReal) : focal 1#1 x = focalRef 1 x := by
  have hs : ∀ a b : EReal, Scalar.select 1#1 a b = a := fun a b => if_pos (by decide)
  induction x with
  | bot =>
    have hc : (0 : EReal) - ⊥ = ⊤ := by rw [zero_sub, EReal.neg_bot]
    rw [focal, hs, hs, hc, min_eq_left bot_le, softplus_top, gate_top, mul_one, mul_one]
    rw [focalRef, one_sub_one, mul_zero, mul_zero, mul_one, mul_one, EReal.neg_bot, max_eq_right bot_le, max_eq_right bot_le,
      EReal.neg_top, exp_bot, exp_top, log1p_zero, hc, add_zero, add_zero, mul_one]
    have ht : (1 : EReal) + ⊤ = ⊤ := EReal.add_top_of_ne_bot (by exact_mod_cast EReal.coe_ne_bot 1)
    rw [ht, div_one_top, add_zero, sub_zero, pow_two_one, mul_one]
  | top =>
    have hc : (0 : EReal) - ⊤ = ⊥ := by rw [zero_sub, EReal.neg_top]
    rw [focal, hs, hs, hc, min_eq_right bot_le, softplus_bot, mul_zero, zero_mul, zero_mul]
    rw [focalRef, one_sub_one, mul_zero, mul_zero, mul_one, mul_one, EReal.neg_top, exp_bot,
      add_zero (1 : EReal), div_one_one, mul_one (1 : EReal), add_zero (1 : EReal), one_sub_one, pow_two_zero, mul_zero, mul_zero]
  | coe r =>
    rw [focal_one_coe, ← EReal.coe_one, focalRef_coe]
    congr 1
    have hm : max (-r) 0 = max r 0 - r := by
      rcases le_total 0 r with h | h
      · rw [max_eq_right (by linarith), max_eq_left h]; ring
      · rw [max_eq_left (by linarith), max_eq_right h]; ring
    have hg : 1 / (1 + Real.exp r) = 1 - 1 / (1 + Real.exp (-r)) := by
      have hp : (0 : ℝ) < Real.exp r := Real.exp_pos r
      rw [Real.exp_neg]
      field_simp
      ring
    rw [hm, hg]
    ring

/-- The kernel's focal term with the target bit `t` is the reference's with `t` read as the number zero or one. -/
theorem focal_eq (t : BitVec 1) (x : EReal) : focal t x = focalRef ((t.toNat : ℝ) : EReal) x := by
  rcases BitVec.eq_zero_or_eq_one t with h | h
  · rw [h, focal_zero]; simp
  · rw [h, focal_one]; simp

/-! ## The term is never negative -/

/-- The softplus is not negative. -/
theorem softplus_nonneg (y z : EReal) : 0 ≤ softplus y z := by
  refine add_nonneg (le_max_right _ _) ?_
  induction z with
  | bot => rw [exp_bot, log1p_zero]
  | top => exact le_top
  | coe r =>
    rw [log1p_exp]
    exact_mod_cast Real.log_nonneg (by have := Real.exp_pos r; linarith)

/-- Half of the argument for the gate: one divided by `1 + e^z` lies between zero and one. -/
theorem div_mem (z : EReal) : 0 ≤ Ideal.div 1 (1 + Ideal.exp z) ∧ 0 ≤ 1 - Ideal.div 1 (1 + Ideal.exp z) := by
  induction z with
  | bot => rw [exp_bot, add_zero, div_one_one, one_sub_one]; exact ⟨zero_le_one, le_refl _⟩
  | top =>
    have ht : (1 : EReal) + ⊤ = ⊤ := EReal.add_top_of_ne_bot (by exact_mod_cast EReal.coe_ne_bot 1)
    rw [exp_top, ht, div_one_top, sub_zero]; exact ⟨le_refl _, zero_le_one⟩
  | coe r =>
    have hp := Real.exp_pos r
    rw [div_one_add_exp, ← EReal.coe_one, ← EReal.coe_sub]
    constructor
    · exact_mod_cast (by positivity : (0 : ℝ) ≤ 1 / (1 + Real.exp r))
    · have h : 1 / (1 + Real.exp r) ≤ 1 := by
        rw [div_le_one (by positivity)]; linarith
      exact_mod_cast sub_nonneg.mpr h

/-- The gate is not negative. -/
theorem gate_nonneg (y z : EReal) : 0 ≤ gate y z := by
  rw [gate]
  split_ifs
  · exact (div_mem z).1
  · exact (div_mem z).2

/-- The focal term is not negative. -/
theorem focal_nonneg (t : BitVec 1) (x : EReal) : 0 ≤ focal t x := by
  have hc : (0 : EReal) ≤ Scalar.select t (Ideal.ofBits .f32 0x3E800000#32) (Ideal.ofBits .f32 0x3F400000#32) := by
    rw [Scalar.select, quarter, threeQuarters]
    split_ifs
    · exact_mod_cast (by norm_num : (0 : ℝ) ≤ 1 / 4)
    · exact_mod_cast (by norm_num : (0 : ℝ) ≤ 3 / 4)
  exact mul_nonneg (mul_nonneg (mul_nonneg hc (softplus_nonneg _ _)) (gate_nonneg _ _)) (gate_nonneg _ _)

end Cert.Loss

end
-- ==== Proof.Block.lean ====
/- What one grid point of the kernel adds to its four accumulators. -/
module

public import proofs.«01_k».proof.Proof.Gen.KernelIdeal.Value
public import proofs.«01_k».proof.Proof.Scalar
public import Idealize.ShloMosaic.Lib.Pipeline.ValueKit
public import Idealize.ShloMosaic.Lib.Pointwise

@[expose] public section

set_option maxRecDepth 16384

noncomputable section

namespace Cert.Loss.Block

open Cert.KernelIdeal Cert.KernelIdeal.Gen Idealize.ShloMosaic

/-! ## The class-wise focal sums: the slabs of the logit block and the running partial sums -/

variable (X : Vec Ideal S151x16x200 .f32) (cls : Vec Ideal S16x200 .i32)

/-- The slab of eight classes from class 0 on. -/
abbrev ld0 : Vec Ideal S8x16x200 .f32 := View.ld X (Rect.unit ![0, 0, 0] ![8, 16, 200] inb_S151x16x200_S8x16x200_0_0_0)
/-- The slab of eight classes from class 8 on. -/
abbrev ld8 : Vec Ideal S8x16x200 .f32 := View.ld X (Rect.unit ![8, 0, 0] ![8, 16, 200] inb_S151x16x200_S8x16x200_8_0_0)
/-- The slab of eight classes from class 16 on. -/
abbrev ld16 : Vec Ideal S8x16x200 .f32 := View.ld X (Rect.unit ![16, 0, 0] ![8, 16, 200] inb_S151x16x200_S8x16x200_16_0_0)
/-- The slab of eight classes from class 24 on. -/
abbrev ld24 : Vec Ideal S8x16x200 .f32 := View.ld X (Rect.unit ![24, 0, 0] ![8, 16, 200] inb_S151x16x200_S8x16x200_24_0_0)
/-- The slab of eight classes from class 32 on. -/
abbrev ld32 : Vec Ideal S8x16x200 .f32 := View.ld X (Rect.unit ![32, 0, 0] ![8, 16, 200] inb_S151x16x200_S8x16x200_32_0_0)
/-- The slab of eight classes from class 40 on. -/
abbrev ld40 : Vec Ideal S8x16x200 .f32 := View.ld X (Rect.unit ![40, 0, 0] ![8, 16, 200] inb_S151x16x200_S8x16x200_40_0_0)
/-- The slab of eight classes from class 48 on. -/
abbrev ld48 : Vec Ideal S8x16x200 .f32 := View.ld X (Rect.unit ![48, 0, 0] ![8, 16, 200] inb_S151x16x200_S8x16x200_48_0_0)
/-- The slab of eight classes from class 56 on. -/
abbrev ld56 : Vec Ideal S8x16x200 .f32 := View.ld X (Rect.unit ![56, 0, 0] ![8, 16, 200] inb_S151x16x200_S8x16x200_56_0_0)
/-- The slab of eight classes from class 64 on. -/
abbrev ld64 : Vec Ideal S8x16x200 .f32 := View.ld X (Rect.unit ![64, 0, 0] ![8, 16, 200] inb_S151x16x200_S8x16x200_64_0_0)
/-- The slab of eight classes from class 72 on. -/
abbrev ld72 : Vec Ideal S8x16x200 .f32 := View.ld X (Rect.unit ![72, 0, 0] ![8, 16, 200] inb_S151x16x200_S8x16x200_72_0_0)
/-- The slab of eight classes from class 80 on. -/
abbrev ld80 : Vec Ideal S8x16x200 .f32 := View.ld X (Rect.unit ![80, 0, 0] ![8, 16, 200] inb_S151x16x200_S8x16x200_80_0_0)
/-- The slab of eight classes from class 88 on. -/
abbrev ld88 : Vec Ideal S8x16x200 .f32 := View.ld X (Rect.unit ![88, 0, 0] ![8, 16, 200] inb_S151x16x200_S8x16x200_88_0_0)
/-- The slab of eight classes from class 96 on. -/
abbrev ld96 : Vec Ideal S8x16x200 .f32 := View.ld X (Rect.unit ![96, 0, 0] ![8, 16, 200] inb_S151x16x200_S8x16x200_96_0_0)
/-- The slab of eight classes from class 104 on. -/
abbrev ld104 : Vec Ideal S8x16x200 .f32 := View.ld X (Rect.unit ![104, 0, 0] ![8, 16, 200] inb_S151x16x200_S8x16x200_104_0_0)
/-- The slab of eight classes from class 112 on. -/
abbrev ld112 : Vec Ideal S8x16x200 .f32 := View.ld X (Rect.unit ![112, 0, 0] ![8, 16, 200] inb_S151x16x200_S8x16x200_112_0_0)
/-- The slab of eight classes from class 120 on. -/
abbrev ld120 : Vec Ideal S8x16x200 .f32 := View.ld X (Rect.unit ![120, 0, 0] ![8, 16, 200] inb_S151x16x200_S8x16x200_120_0_0)
/-- The slab of eight classes from class 128 on. -/
abbrev ld128 : Vec Ideal S8x16x200 .f32 := View.ld X (Rect.unit ![128, 0, 0] ![8, 16, 200] inb_S151x16x200_S8x16x200_128_0_0)
/-- The slab of eight classes from class 136 on. -/
abbrev ld136 : Vec Ideal S8x16x200 .f32 := View.ld X (Rect.unit ![136, 0, 0] ![8, 16, 200] inb_S151x16x200_S8x16x200_136_0_0)
/-- The slab of the last seven classes. -/
abbrev ld144 : Vec Ideal S7x16x200 .f32 := View.ld X (Rect.unit ![144, 0, 0] ![7, 16, 200] inb_S151x16x200_S7x16x200_144_0_0)

/-- The running partial sum of the first 16 classes' focal terms. -/
def part16 : FVec Ideal S16x200 .f32 :=
  k0_pay14 cls (k0_pay13 cls (ld0 X)) (ld8 X)

/-- The running partial sum of the first 24 classes' focal terms. -/
def part24 : FVec Ideal S16x200 .f32 :=
  k0_pay20 (part16 X cls) (k0_pay16 cls) (k0_pay18 cls (ld16 X)) (k0_pay19 (ld16 X))

/-- The running partial sum of the first 32 classes' focal terms. -/
def part32 : FVec Ideal S16x200 .f32 :=
  k0_pay28 (part24 X cls) (k0_pay22 cls) (k0_pay24 cls (ld24 X)) (k0_pay26 (ld24 X)) (k0_pay27 cls (ld24 X)) (FloatOps.ofBits FTy.f32 0#32)

/-- The running partial sum of the first 48 classes' focal terms. -/
def part48 : FVec Ideal S16x200 .f32 :=
  k0_pay36 cls (part32 X cls) (k0_pay34 cls (ld32 X)) (k0_pay35 cls (ld32 X)) (ld40 X)

/-- The running partial sum of the first 56 classes' focal terms. -/
def part56 : FVec Ideal S16x200 .f32 :=
  k0_pay39 cls (part48 X cls) (k0_pay37 (ld48 X)) k0_pay38

/-- The running partial sum of the first 64 classes' focal terms. -/
def part64 : FVec Ideal S16x200 .f32 :=
  k0_pay47 (part56 X cls) (k0_pay41 cls) (k0_pay43 cls (ld56 X)) (k0_pay45 (ld56 X)) (k0_pay46 (ld56 X))

/-- The running partial sum of the first 80 classes' focal terms. -/
def part80 : FVec Ideal S16x200 .f32 :=
  k0_pay57 cls (part64 X cls) (k0_pay49 cls) (k0_pay53 (ld64 X)) (k0_pay54 cls (ld64 X)) (k0_pay55 cls (ld64 X)) (k0_pay56 (ld64 X)) (ld72 X)

/-- The running partial sum of the first 88 classes' focal terms. -/
def part88 : FVec Ideal S16x200 .f32 :=
  k0_pay58 cls (part80 X cls) (ld80 X)

/-- The running partial sum of the first 96 classes' focal terms. -/
def part96 : FVec Ideal S16x200 .f32 :=
  k0_pay62 (part88 X cls) (k0_pay59 (ld88 X)) (k0_pay60 cls) k0_pay61

/-- The running partial sum of the first 104 classes' focal terms. -/
def part104 : FVec Ideal S16x200 .f32 :=
  k0_pay71 (part96 X cls) (k0_pay64 cls) (k0_pay66 cls (ld96 X)) (k0_pay68 (ld96 X)) (k0_pay69 (ld96 X)) k0_pay70

/-- The running partial sum of the first 120 classes' focal terms. -/
def part120 : FVec Ideal S16x200 .f32 :=
  k0_pay81 cls (part104 X cls) (k0_pay73 cls) (k0_pay77 cls (ld104 X)) (k0_pay78 cls (ld104 X)) k0_pay79 k0_pay80 (ld112 X)

/-- The running partial sum of the first 128 classes' focal terms. -/
def part128 : FVec Ideal S16x200 .f32 :=
  k0_pay83 cls (part120 X cls) (k0_pay82 (ld120 X)) (iota Kind.tc S8x16x200 32 [0] iota_S8x16x200_d0_w32)

/-- The running partial sum of the first 136 classes' focal terms. -/
def part136 : FVec Ideal S16x200 .f32 :=
  k0_pay90 (part128 X cls) (k0_pay85 cls) (k0_pay87 cls (ld128 X)) (k0_pay88 (ld128 X)) (k0_pay89 (ld128 X))

/-- The running partial sum of the first 144 classes' focal terms. -/
def part144 : FVec Ideal S16x200 .f32 :=
  k0_pay99 (part136 X cls) (k0_pay92 cls) (k0_pay96 (ld136 X)) (k0_pay97 cls (ld136 X)) (k0_pay98 cls (ld136 X))

/-- The focal accumulator after the point: what it held, `acc`, plus the sum over all the classes. -/
def ceStep (acc : Vec Ideal S16x200 .f32) : FVec Ideal S16x200 .f32 :=
  k0_pay101 (part144 X cls) (k0_pay100 cls (ld144 X)) acc

/-- The focal term of class `k` at the block's entry `j`. -/
def term (j : S16x200.Idx) (k : Fin 151) : EReal :=
  focal (IntOp.cmpi .eq (BitVec.ofNat 32 k.val) (cls j)) (X (ix3 k (j 0) (j 1)))

/-- A partial sum over `n` classes followed by the next `s` is the partial sum over `n + s`. -/
theorem sum_append (f : Fin 151 → EReal) (n s : ℕ) (h : n + s ≤ 151) :
    (∑ k : Fin n, f ⟨k.val, by omega⟩) + ∑ x : Fin s, f ⟨n + x.val, by omega⟩ = ∑ k : Fin (n + s), f ⟨k.val, by omega⟩ := by
  rw [Fin.sum_univ_add]
  rfl

/-- The word of `n` plus the word of `x` is the word of `n + x`. -/
theorem word_add (n x : ℕ) : IntOp.addi (BitVec.ofNat 32 n) (BitVec.ofNat 32 x) = BitVec.ofNat 32 (n + x) :=
  (BitVec.ofNat_add n x).symm

/-- A slab read at its entry is the logit block at the class counted from the slab's first. -/
theorem slab_read (o n : ℕ) (h : ∀ a, ![o, 0, 0] a + ![n, 16, 200] a ≤ S151x16x200.size a) (hn : o + n ≤ 151)
    (x : Fin n) (a : Fin 16) (b : Fin 200) :
    View.ld X (Rect.unit ![o, 0, 0] ![n, 16, 200] h) (ix3 x a b) = X (ix3 ⟨o + x.val, by omega⟩ a b) := by
  rw [View.ld_unit]
  refine congrArg X (funext fun i => Fin.ext ?_)
  fin_cases i
  · rfl
  · exact Nat.zero_add _
  · exact Nat.zero_add _

/-- The focal terms of a slab of `n` classes, with the class words counted inside the slab, are the
    terms of the classes from the slab's first on. -/
theorem slab_sum (o n : ℕ) (h : ∀ a, ![o, 0, 0] a + ![n, 16, 200] a ≤ S151x16x200.size a) (hn : o + n ≤ 151)
    (j : S16x200.Idx) :
    (∑ x : Fin n, focal (IntOp.cmpi .eq (IntOp.addi (BitVec.ofNat 32 o) (BitVec.ofNat 32 x.val)) (cls j))
      (View.ld X (Rect.unit ![o, 0, 0] ![n, 16, 200] h) (ix3 x (j 0) (j 1))))
      = ∑ x : Fin n, term X cls j ⟨o + x.val, by omega⟩ := by
  refine Finset.sum_congr rfl fun x _ => ?_
  rw [word_add]
  exact congrArg (focal _) (slab_read X o n h hn x (j 0) (j 1))

/-- The same for the slab from class 0 on. -/
theorem slab_sum_zero (j : S16x200.Idx) :
    (∑ x : Fin 8, focal (IntOp.cmpi .eq (IntOp.addi (BitVec.ofNat 32 0) (BitVec.ofNat 32 x.val)) (cls j))
      (ld0 X (ix3 x (j 0) (j 1)))) = ∑ x : Fin 8, term X cls j ⟨x.val, by omega⟩ :=
  (slab_sum X cls 0 8 inb_S151x16x200_S8x16x200_0_0_0 (by omega) j).trans
    (Finset.sum_congr rfl fun x _ => congrArg (term X cls j) (Fin.ext (Nat.zero_add _)))

/-- Slab by slab: the partial sum of 16 classes from the one before it. -/
theorem part16_step (j : S16x200.Idx) : part16 X cls j = (∑ x : Fin 8, term X cls j ⟨x.val, by omega⟩) + (∑ x : Fin 8, term X cls j ⟨8 + x.val, by omega⟩) := by
  unfold part16
  pointwise [k0_pay13, k0_pay14]
  rw [← slab_sum_zero X cls j, ← slab_sum X cls 8 8 inb_S151x16x200_S8x16x200_8_0_0 (by omega) j]
  rfl

/-- Slab by slab: the partial sum of 24 classes from the one before it. -/
theorem part24_step (j : S16x200.Idx) : part24 X cls j = part16 X cls j + (∑ x : Fin 8, term X cls j ⟨16 + x.val, by omega⟩) := by
  unfold part24
  pointwise [k0_pay15, k0_pay16, k0_pay17, k0_pay18, k0_pay19, k0_pay20]
  rw [← slab_sum X cls 16 8 inb_S151x16x200_S8x16x200_16_0_0 (by omega) j]
  rfl

/-- Slab by slab: the partial sum of 32 classes from the one before it. -/
theorem part32_step (j : S16x200.Idx) : part32 X cls j = part24 X cls j + (∑ x : Fin 8, term X cls j ⟨24 + x.val, by omega⟩) := by
  unfold part32
  pointwise [k0_pay21, k0_pay22, k0_pay23, k0_pay24, k0_pay25, k0_pay26, k0_pay27, k0_pay28]
  rw [← slab_sum X cls 24 8 inb_S151x16x200_S8x16x200_24_0_0 (by omega) j]
  rfl

/-- Slab by slab: the partial sum of 48 classes from the one before it. -/
theorem part48_step (j : S16x200.Idx) : part48 X cls j = part32 X cls j + (∑ x : Fin 8, term X cls j ⟨32 + x.val, by omega⟩) + (∑ x : Fin 8, term X cls j ⟨40 + x.val, by omega⟩) := by
  unfold part48
  pointwise [k0_pay29, k0_pay30, k0_pay31, k0_pay32, k0_pay33, k0_pay34, k0_pay35, k0_pay36]
  rw [← slab_sum X cls 32 8 inb_S151x16x200_S8x16x200_32_0_0 (by omega) j, ← slab_sum X cls 40 8 inb_S151x16x200_S8x16x200_40_0_0 (by omega) j]
  rfl

/-- Slab by slab: the partial sum of 56 classes from the one before it. -/
theorem part56_step (j : S16x200.Idx) : part56 X cls j = part48 X cls j + (∑ x : Fin 8, term X cls j ⟨48 + x.val, by omega⟩) := by
  unfold part56
  pointwise [k0_pay37, k0_pay38, k0_pay39]
  rw [← slab_sum X cls 48 8 inb_S151x16x200_S8x16x200_48_0_0 (by omega) j]
  rfl

/-- Slab by slab: the partial sum of 64 classes from the one before it. -/
theorem part64_step (j : S16x200.Idx) : part64 X cls j = part56 X cls j + (∑ x : Fin 8, term X cls j ⟨56 + x.val, by omega⟩) := by
  unfold part64
  pointwise [k0_pay40, k0_pay41, k0_pay42, k0_pay43, k0_pay44, k0_pay45, k0_pay46, k0_pay47]
  rw [← slab_sum X cls 56 8 inb_S151x16x200_S8x16x200_56_0_0 (by omega) j]
  rfl

/-- Slab by slab: the partial sum of 80 classes from the one before it. -/
theorem part80_step (j : S16x200.Idx) : part80 X cls j = part64 X cls j + (∑ x : Fin 8, term X cls j ⟨64 + x.val, by omega⟩) + (∑ x : Fin 8, term X cls j ⟨72 + x.val, by omega⟩) := by
  unfold part80
  pointwise [k0_pay48, k0_pay49, k0_pay50, k0_pay51, k0_pay52, k0_pay53, k0_pay54, k0_pay55, k0_pay56, k0_pay57]
  rw [← slab_sum X cls 64 8 inb_S151x16x200_S8x16x200_64_0_0 (by omega) j, ← slab_sum X cls 72 8 inb_S151x16x200_S8x16x200_72_0_0 (by omega) j]
  rfl

/-- Slab by slab: the partial sum of 88 classes from the one before it. -/
theorem part88_step (j : S16x200.Idx) : part88 X cls j = part80 X cls j + (∑ x : Fin 8, term X cls j ⟨80 + x.val, by omega⟩) := by
  unfold part88
  pointwise [k0_pay58]
  rw [← slab_sum X cls 80 8 inb_S151x16x200_S8x16x200_80_0_0 (by omega) j]
  rfl

/-- Slab by slab: the partial sum of 96 classes from the one before it. -/
theorem part96_step (j : S16x200.Idx) : part96 X cls j = part88 X cls j + (∑ x : Fin 8, term X cls j ⟨88 + x.val, by omega⟩) := by
  unfold part96
  pointwise [k0_pay59, k0_pay60, k0_pay61, k0_pay62]
  rw [← slab_sum X cls 88 8 inb_S151x16x200_S8x16x200_88_0_0 (by omega) j]
  rfl

/-- Slab by slab: the partial sum of 104 classes from the one before it. -/
theorem part104_step (j : S16x200.Idx) : part104 X cls j = part96 X cls j + (∑ x : Fin 8, term X cls j ⟨96 + x.val, by omega⟩) := by
  unfold part104
  pointwise [k0_pay63, k0_pay64, k0_pay65, k0_pay66, k0_pay67, k0_pay68, k0_pay69, k0_pay70, k0_pay71]
  rw [← slab_sum X cls 96 8 inb_S151x16x200_S8x16x200_96_0_0 (by omega) j]
  rfl

/-- Slab by slab: the partial sum of 120 classes from the one before it. -/
theorem part120_step (j : S16x200.Idx) : part120 X cls j = part104 X cls j + (∑ x : Fin 8, term X cls j ⟨104 + x.val, by omega⟩) + (∑ x : Fin 8, term X cls j ⟨112 + x.val, by omega⟩) := by
  unfold part120
  pointwise [k0_pay72, k0_pay73, k0_pay74, k0_pay75, k0_pay76, k0_pay77, k0_pay78, k0_pay79, k0_pay80, k0_pay81]
  rw [← slab_sum X cls 104 8 inb_S151x16x200_S8x16x200_104_0_0 (by omega) j, ← slab_sum X cls 112 8 inb_S151x16x200_S8x16x200_112_0_0 (by omega) j]
  rfl

/-- Slab by slab: the partial sum of 128 classes from the one before it. -/
theorem part128_step (j : S16x200.Idx) : part128 X cls j = part120 X cls j + (∑ x : Fin 8, term X cls j ⟨120 + x.val, by omega⟩) := by
  unfold part128
  pointwise [k0_pay82, k0_pay83]
  rw [← slab_sum X cls 120 8 inb_S151x16x200_S8x16x200_120_0_0 (by omega) j]
  rfl

/-- Slab by slab: the partial sum of 136 classes from the one before it. -/
theorem part136_step (j : S16x200.Idx) : part136 X cls j = part128 X cls j + (∑ x : Fin 8, term X cls j ⟨128 + x.val, by omega⟩) := by
  unfold part136
  pointwise [k0_pay84, k0_pay85, k0_pay86, k0_pay87, k0_pay88, k0_pay89, k0_pay90]
  rw [← slab_sum X cls 128 8 inb_S151x16x200_S8x16x200_128_0_0 (by omega) j]
  rfl

/-- Slab by slab: the partial sum of 144 classes from the one before it. -/
theorem part144_step (j : S16x200.Idx) : part144 X cls j = part136 X cls j + (∑ x : Fin 8, term X cls j ⟨136 + x.val, by omega⟩) := by
  unfold part144
  pointwise [k0_pay91, k0_pay92, k0_pay93, k0_pay94, k0_pay95, k0_pay96, k0_pay97, k0_pay98, k0_pay99]
  rw [← slab_sum X cls 136 8 inb_S151x16x200_S8x16x200_136_0_0 (by omega) j]
  rfl

/-- The accumulator's step adds the last seven classes. -/
theorem ceStep_tail (acc : Vec Ideal S16x200 .f32) (j : S16x200.Idx) :
    ceStep X cls acc j = acc j + (part144 X cls j + (∑ x : Fin 7, term X cls j ⟨144 + x.val, by omega⟩)) := by
  unfold ceStep
  pointwise [k0_pay100, k0_pay101]
  rw [← slab_sum X cls 144 7 inb_S151x16x200_S7x16x200_144_0_0 (by omega) j]
  rfl

/-- The sum of the first 144 classes' focal terms. -/
theorem part144_sum (j : S16x200.Idx) : part144 X cls j = ∑ k : Fin 144, term X cls j ⟨k.val, by omega⟩ := by
  rw [part144_step, part136_step, part128_step, part120_step, part104_step, part96_step, part88_step, part80_step, part64_step, part56_step, part48_step, part32_step, part24_step, part16_step]
  rw [sum_append (term X cls j) 8 8 (by omega), sum_append (term X cls j) 16 8 (by omega), sum_append (term X cls j) 24 8 (by omega), sum_append (term X cls j) 32 8 (by omega), sum_append (term X cls j) 40 8 (by omega), sum_append (term X cls j) 48 8 (by omega), sum_append (term X cls j) 56 8 (by omega), sum_append (term X cls j) 64 8 (by omega), sum_append (term X cls j) 72 8 (by omega), sum_append (term X cls j) 80 8 (by omega), sum_append (term X cls j) 88 8 (by omega), sum_append (term X cls j) 96 8 (by omega), sum_append (term X cls j) 104 8 (by omega), sum_append (term X cls j) 112 8 (by omega), sum_append (term X cls j) 120 8 (by omega), sum_append (term X cls j) 128 8 (by omega), sum_append (term X cls j) 136 8 (by omega)]

/-- The focal accumulator after the point: at every entry what it held plus the sum of the focal terms of
    the 151 classes. -/
theorem ceStep_apply (acc : Vec Ideal S16x200 .f32) (j : S16x200.Idx) :
    ceStep X cls acc j = acc j + ∑ k : Fin 151, term X cls j k := by
  rw [ceStep_tail, part144_sum, sum_append (term X cls j) 144 7 (by omega)]

end Cert.Loss.Block

end
-- ==== Proof.Boxes.lean ====
/- The scalar pieces of the losses of a pair of boxes and the weight of a matched query. -/
module

public import Idealize.ShloMosaic.Lib.Pointwise

@[expose] public section

noncomputable section

namespace Cert.Loss

open Idealize.ShloMosaic

/-- The f32 constant one half. -/
abbrev half : EReal := Ideal.ofBits .f32 1056964608#32

/-- The f32 constant that guards the two quotients of the GIoU. -/
abbrev eps : EReal := Ideal.ofBits .f32 869711765#32

/-- The lower end of the interval with centre `c` and length `s`. -/
def lower (c s : EReal) : EReal := c - half * s

/-- The upper end of the interval with centre `c` and length `s`. -/
def upper (c s : EReal) : EReal := c + half * s

/-- The area of a box given by its centre and its two side lengths. -/
def area (p : Fin 4 → EReal) : EReal :=
  (upper (p 0) (p 2) - lower (p 0) (p 2)) * (upper (p 1) (p 3) - lower (p 1) (p 3))

/-- The length of the overlap of two intervals, zero where they do not meet. -/
def overlap (c s c' s' : EReal) : EReal := max (min (upper c s) (upper c' s') - max (lower c s) (lower c' s')) 0

/-- The length of the smallest interval around two intervals. -/
def span (c s c' s' : EReal) : EReal := max (max (upper c s) (upper c' s') - min (lower c s) (lower c' s')) 0

/-- The area two boxes have in common. -/
def inter (p t : Fin 4 → EReal) : EReal := overlap (p 0) (p 2) (t 0) (t 2) * overlap (p 1) (p 3) (t 1) (t 3)

/-- The area of the smallest box around two boxes. -/
def hull (p t : Fin 4 → EReal) : EReal := span (p 0) (p 2) (t 0) (t 2) * span (p 1) (p 3) (t 1) (t 3)

/-- The area of the union of two boxes. -/
def union (p t : Fin 4 → EReal) : EReal := area p + area t - inter p t

/-- The GIoU loss of two boxes. -/
def giouLoss (p t : Fin 4 → EReal) : EReal :=
  1 - (Ideal.div (inter p t) (union p t + eps) - Ideal.div (hull p t - union p t) (hull p t + eps))

/-- The L1 loss of two boxes. -/
def l1Loss (p t : Fin 4 → EReal) : EReal := ∑ x : Fin 4, FloatOps.absf (F := Ideal) (φ := .f32) (p x - t x : EReal)

/-- The weight of a query: one where its class is not the class 151 that stands for no object. -/
def hit (c : BitVec 32) : EReal := (((IntOp.cmpi .ne c 151#32).toNat : ℝ) : EReal)

/-- A bit, widened to a word and read as a signed number, is the bit read as a number. -/
theorem signed_bit (b : BitVec 1) :
    FloatOps.sitofp (F := Ideal) .f32 (BitVec.setWidth 32 b) = ((b.toNat : ℝ) : EReal) := by
  show (((BitVec.setWidth 32 b).toInt : ℝ) : EReal) = _
  have h : ∀ b : BitVec 1, (BitVec.setWidth 32 b).toInt = (b.toNat : ℤ) := by decide
  rw [h b]
  norm_num

end Cert.Loss

end
-- ==== Proof.BlockBoxes.lean ====
/- What one grid point adds to the accumulators of the matched queries, the L1 loss and the GIoU loss,
   and what the last point writes. -/
module

public import proofs.«01_k».proof.Proof.Gen.KernelIdeal.Value
public import proofs.«01_k».proof.Proof.Boxes
public import Idealize.ShloMosaic.Lib.Pipeline.ValueKit
public import Idealize.ShloMosaic.Lib.Pointwise

@[expose] public section

set_option maxRecDepth 16384

noncomputable section

namespace Cert.Loss.Block

open Cert.KernelIdeal Cert.KernelIdeal.Gen Idealize.ShloMosaic

/-- The accumulator of the matched queries after the point: what it held plus the query's weight. -/
theorem mStep_apply (cls : Vec Ideal S16x200 .i32) (acc : Vec Ideal S16x200 .f32) (j : S16x200.Idx) :
    k0_pay1 (k0_pay102 cls) acc j = (show EReal from acc j) + hit (cls j) := by
  pointwise [k0_pay1, k0_pay102]
  rw [signed_bit]
  rfl

/-- The L1 accumulator after the point: what it held plus the weighted L1 loss of the query's two boxes. -/
theorem l1Step_apply (cls : Vec Ideal S16x200 .i32) (pb tb : Vec Ideal S16x4x200 .f32) (acc : Vec Ideal S16x200 .f32)
    (j : S16x200.Idx) :
    k0_pay2 (k0_pay105 cls pb tb) acc j = (show EReal from acc j)
      + l1Loss (fun x => pb (ix3 (j 0) x (j 1))) (fun x => tb (ix3 (j 0) x (j 1))) * hit (cls j) := by
  pointwise [k0_pay2, k0_pay102, k0_pay103, k0_pay104, k0_pay105]
  rw [signed_bit]
  rfl

/-- The GIoU accumulator after the point, from the blocks of classes and boxes and what it held. -/
def giStep (cls : Vec Ideal S16x200 .i32) (pb tb : Vec Ideal S16x4x200 .f32) (acc : Vec Ideal S16x200 .f32) :
    FVec Ideal S16x200 .f32 :=
  k0_pay3 (k0_pay102 cls)
    (k0_pay125 (k0_pay104 tb) (k0_pay110 pb) (k0_pay111 pb) (k0_pay112 pb) (k0_pay113 pb) (k0_pay114 tb) (k0_pay115 tb) (k0_pay116 tb))
    (k0_pay126 (k0_pay104 tb) (k0_pay110 pb) (k0_pay111 pb) (k0_pay112 pb) (k0_pay113 pb) (k0_pay114 tb) (k0_pay115 tb) (k0_pay116 tb))
    (k0_pay127 (k0_pay104 tb) (k0_pay110 pb) (k0_pay111 pb) (k0_pay112 pb) (k0_pay113 pb) (k0_pay114 tb) (k0_pay115 tb) (k0_pay116 tb))
    k0_pay128 acc

/-- The GIoU accumulator after the point: what it held plus the weighted GIoU loss of the query's two boxes. -/
theorem giStep_apply (cls : Vec Ideal S16x200 .i32) (pb tb : Vec Ideal S16x4x200 .f32) (acc : Vec Ideal S16x200 .f32)
    (j : S16x200.Idx) :
    giStep cls pb tb acc j = (show EReal from acc j)
      + giouLoss (fun x => pb (ix3 (j 0) x (j 1))) (fun x => tb (ix3 (j 0) x (j 1))) * hit (cls j) := by
  unfold giStep
  pointwise [k0_pay3, k0_pay102, k0_pay103, k0_pay104, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128]
  rw [signed_bit]
  rfl

/-- The first point's focal accumulator starts from zero. -/
theorem ceZero_apply (j : S16x200.Idx) : k0_pay9 (F := Ideal) j = (0 : EReal) := by
  pointwise [k0_pay9]

/-- The first point's accumulator of the matched queries starts from zero. -/
theorem mZero_apply (j : S16x200.Idx) : k0_pay10 (F := Ideal) j = (0 : EReal) := by
  pointwise [k0_pay10]

/-- The first point's L1 accumulator starts from zero. -/
theorem l1Zero_apply (j : S16x200.Idx) : k0_pay11 (F := Ideal) j = (0 : EReal) := by
  pointwise [k0_pay11]

/-- The first point's GIoU accumulator starts from zero. -/
theorem giZero_apply (j : S16x200.Idx) : k0_pay12 (F := Ideal) j = (0 : EReal) := by
  pointwise [k0_pay12]

/-- The sum of a block's entries. -/
def total (v : Vec Ideal S16x200 .f32) : EReal := ∑ a : Fin 16, ∑ q : Fin 200, (v (ix2 a q) : EReal)

/-- One where the lane is `n`, else zero. -/
def lane (l : Fin 3) (n : BitVec 32) : EReal := (((IntOp.cmpi .eq (BitVec.ofNat 32 l.val) n).toNat : ℝ) : EReal)

/-- What the last point writes, from the four accumulators: lane by lane the focal, L1 or GIoU total over
    the number of matched queries, which counts as one where there are none. -/
theorem last_apply (M CE L1 GI : Vec Ideal S16x200 .f32) (j : S1x3.Idx) :
    k0_pay4 (k0_pay5 M) (k0_pay6 CE L1) k0_pay7 (k0_pay8 GI) j
      = Ideal.div (total CE * lane (j 1) 0#32 + total L1 * lane (j 1) 1#32 + total GI * lane (j 1) 2#32)
          (max (total M) 1) := by
  pointwise [k0_pay4, k0_pay5, k0_pay6, k0_pay7, k0_pay8]
  rw [signed_bit, signed_bit, signed_bit]
  rfl

/-- The lane's choice among three values, written as a sum of products with zeros and ones. -/
theorem lane_sum (x y z : EReal) (l : Fin 3) :
    x * lane l 0#32 + y * lane l 1#32 + z * lane l 2#32 = if l = 0 then x else if l = 1 then y else z := by
  have h1 : (((1 : ℕ) : ℝ) : EReal) = 1 := by norm_num
  have h0 : (((0 : ℕ) : ℝ) : EReal) = 0 := by norm_num
  fin_cases l
  · show x * (((1 : ℕ) : ℝ) : EReal) + y * (((0 : ℕ) : ℝ) : EReal) + z * (((0 : ℕ) : ℝ) : EReal) = x
    rw [h1, h0, mul_one, mul_zero, mul_zero, add_zero, add_zero]
  · show x * (((0 : ℕ) : ℝ) : EReal) + y * (((1 : ℕ) : ℝ) : EReal) + z * (((0 : ℕ) : ℝ) : EReal) = y
    rw [h1, h0, mul_one, mul_zero, mul_zero, add_zero, zero_add]
  · show x * (((0 : ℕ) : ℝ) : EReal) + y * (((0 : ℕ) : ℝ) : EReal) + z * (((1 : ℕ) : ℝ) : EReal) = z
    rw [h1, h0, mul_one, mul_zero, mul_zero, zero_add, zero_add]

end Cert.Loss.Block

end
-- ==== Proof.Steps.lean ====
/- The kernel's four accumulators from one grid point to the next, and what the last point writes. -/
module

public import proofs.«01_k».proof.Proof.Block
public import proofs.«01_k».proof.Proof.BlockBoxes

@[expose] public section

set_option maxRecDepth 16384

noncomputable section

namespace Cert.Loss.Block

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- What the four accumulators and the output hold after the point before `t`. -/
abbrev prev := outsAt0 m c (t.val - 1) (Nat.lt_of_le_of_lt (Nat.sub_le _ _) t.isLt)

/-- The focal accumulator after the first point is the point's step from zeros. -/
theorem ce_first (h0 : t.val % 4 = 0) :
    (outsAt0 m c t.val t.isLt).1 = ceStep (iblk m c 0 t) (iblk m c 1 t) (k0_pay9 (F := Ideal)) := by
  rw [outsAt0_A m c t h0 (by omega)]
  frame_out
  rfl

/-- The focal accumulator after a later point is the point's step from what the point before left. -/
theorem ce_next (h0 : ¬t.val % 4 = 0) :
    (outsAt0 m c t.val t.isLt).1 = ceStep (iblk m c 0 t) (iblk m c 1 t) (prev m c t).1 := by
  by_cases h1 : t.val % 4 = 3
  · rw [outsAt0_C m c t h0 h1]
    frame_out
    rfl
  · rw [outsAt0_B m c t h0 h1]
    frame_out
    rfl

/-- The accumulator of the matched queries after the first point is the point's step from zeros. -/
theorem m_first (h0 : t.val % 4 = 0) :
    (outsAt0 m c t.val t.isLt).2.1 = k0_pay1 (k0_pay102 (iblk m c 1 t)) (k0_pay10 (F := Ideal)) := by
  rw [outsAt0_A m c t h0 (by omega)]
  frame_out

/-- The accumulator of the matched queries after a later point is the point's step from what the point before left. -/
theorem m_next (h0 : ¬t.val % 4 = 0) :
    (outsAt0 m c t.val t.isLt).2.1 = k0_pay1 (k0_pay102 (iblk m c 1 t)) (prev m c t).2.1 := by
  by_cases h1 : t.val % 4 = 3
  · rw [outsAt0_C m c t h0 h1]
    frame_out
  · rw [outsAt0_B m c t h0 h1]
    frame_out

/-- The L1 accumulator after the first point is the point's step from zeros. -/
theorem l1_first (h0 : t.val % 4 = 0) :
    (outsAt0 m c t.val t.isLt).2.2.1 = k0_pay2 (k0_pay105 (iblk m c 1 t) (iblk m c 2 t) (iblk m c 3 t)) (k0_pay11 (F := Ideal)) := by
  rw [outsAt0_A m c t h0 (by omega)]
  frame_out

/-- The L1 accumulator after a later point is the point's step from what the point before left. -/
theorem l1_next (h0 : ¬t.val % 4 = 0) :
    (outsAt0 m c t.val t.isLt).2.2.1 = k0_pay2 (k0_pay105 (iblk m c 1 t) (iblk m c 2 t) (iblk m c 3 t)) (prev m c t).2.2.1 := by
  by_cases h1 : t.val % 4 = 3
  · rw [outsAt0_C m c t h0 h1]
    frame_out
  · rw [outsAt0_B m c t h0 h1]
    frame_out

/-- The GIoU accumulator after the first point is the point's step from zeros. -/
theorem gi_first (h0 : t.val % 4 = 0) :
    (outsAt0 m c t.val t.isLt).2.2.2.1 = giStep (iblk m c 1 t) (iblk m c 2 t) (iblk m c 3 t) (k0_pay12 (F := Ideal)) := by
  rw [outsAt0_A m c t h0 (by omega)]
  frame_out
  rfl

/-- The GIoU accumulator after a later point is the point's step from what the point before left. -/
theorem gi_next (h0 : ¬t.val % 4 = 0) :
    (outsAt0 m c t.val t.isLt).2.2.2.1 = giStep (iblk m c 1 t) (iblk m c 2 t) (iblk m c 3 t) (prev m c t).2.2.2.1 := by
  by_cases h1 : t.val % 4 = 3
  · rw [outsAt0_C m c t h0 h1]
    frame_out
    rfl
  · rw [outsAt0_B m c t h0 h1]
    frame_out
    rfl

/-- The last point writes the output from the four accumulators as it leaves them. -/
theorem out_last (h1 : t.val % 4 = 3) :
    (outsAt0 m c t.val t.isLt).2.2.2.2
      = k0_pay4 (k0_pay5 (outsAt0 m c t.val t.isLt).2.1)
          (k0_pay6 (outsAt0 m c t.val t.isLt).1 (outsAt0 m c t.val t.isLt).2.2.1) k0_pay7
          (k0_pay8 (outsAt0 m c t.val t.isLt).2.2.2.1) := by
  have h0 : ¬t.val % 4 = 0 := by omega
  rw [ce_next m c t h0, m_next m c t h0, l1_next m c t h0, gi_next m c t h0, outsAt0_C m c t h0 h1]
  frame_out
  rfl

end Cert.Loss.Block

end
-- ==== Proof.Spec.lean ====
/- The three losses of a detection set as sums over its images, queries and classes. -/
module

public import proofs.«01_k».proof.Proof.Scalar
public import proofs.«01_k».proof.Proof.Boxes
public import Idealize.ShloMosaic.Lib.Pipeline.ValueKit

@[expose] public section

noncomputable section

namespace Cert.Loss

open Idealize.ShloMosaic

/-- A detection set: the logits, the predicted and the target boxes and the classes of 200 queries in each
    of 64 images. -/
structure Data where
  /-- The logit of image `b`, query `q` and class `k`. -/
  logit : Fin 64 → Fin 200 → Fin 151 → EReal
  /-- The predicted box of image `b` and query `q`. -/
  pred : Fin 64 → Fin 200 → Fin 4 → EReal
  /-- The target box of image `b` and query `q`. -/
  target : Fin 64 → Fin 200 → Fin 4 → EReal
  /-- The target class of image `b` and query `q`. -/
  cls : Fin 64 → Fin 200 → BitVec 32

namespace Data

variable (D : Data)

/-- The focal term of image `b`, query `q` and class `k`. -/
def focalAt (b : Fin 64) (q : Fin 200) (k : Fin 151) : EReal :=
  focal (IntOp.cmpi .eq (BitVec.ofNat 32 k.val) (D.cls b q)) (D.logit b q k)

/-- The focal terms of a query, summed over the classes. -/
def focalQuery (b : Fin 64) (q : Fin 200) : EReal := ∑ k : Fin 151, D.focalAt b q k

/-- The weight of a query. -/
def hitQuery (b : Fin 64) (q : Fin 200) : EReal := hit (D.cls b q)

/-- The weighted L1 loss of a query. -/
def l1Query (b : Fin 64) (q : Fin 200) : EReal := l1Loss (D.pred b q) (D.target b q) * hit (D.cls b q)

/-- The weighted GIoU loss of a query. -/
def giouQuery (b : Fin 64) (q : Fin 200) : EReal := giouLoss (D.pred b q) (D.target b q) * hit (D.cls b q)

/-- The number of matched queries, at least one. -/
def boxes : EReal := max (∑ b, ∑ q, D.hitQuery b q) 1

/-- The three losses: focal, L1 and GIoU, each a sum over all the queries over the number of boxes. -/
def losses (l : Fin 3) : EReal :=
  Ideal.div (if l = 0 then ∑ b, ∑ q, D.focalQuery b q else if l = 1 then ∑ b, ∑ q, D.l1Query b q
    else ∑ b, ∑ q, D.giouQuery b q) D.boxes

end Data

/-- The images by blocks of sixteen: a sum over a block's images, the queries and the four blocks is the sum
    over all the images and the queries. -/
theorem sum_blocks (f : Fin 64 → Fin 200 → EReal) :
    (∑ a : Fin 16, ∑ q : Fin 200, ∑ t : Fin 4, f ⟨t.val * 16 + a.val, by omega⟩ q) = ∑ b, ∑ q, f b q := by
  rw [← Fin.sum_mul_add_fin 4 16 fun b => ∑ q, f b q, Finset.sum_comm (s := (Finset.univ : Finset (Fin 4)))]
  exact Finset.sum_congr rfl fun a _ => Finset.sum_comm

end Cert.Loss

end
-- ==== Proof.Reads.lean ====
/- The blocks the kernel's windows show at a grid point, as entries of the argument arrays. -/
module

public import proofs.«01_k».proof.Proof.Gen.KernelIdeal.Value
public import proofs.«01_k».proof.Proof.Spec
public import Idealize.ShloMosaic.Lib.Pipeline.ValueKit
public import Idealize.ShloMosaic.Lib.Pointwise

@[expose] public section

set_option maxRecDepth 16384

noncomputable section

namespace Cert.Loss.Block

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The detection set the argument arrays hold. -/
def data : Data where
  logit b q k := m ((c : Thread nD τ).loc main_arg0) (ix3 b q k)
  pred b q x := m ((c : Thread nD τ).loc main_arg1) (ix3 b q x)
  target b q x := m ((c : Thread nD τ).loc main_arg2) (ix3 b q x)
  cls b q := m ((c : Thread nD τ).loc main_arg3) (ix2 b q)

/-- The grid point is one of four. -/
theorem point_lt : t.val < 4 := lt_of_lt_of_eq t.isLt N_0

/-- Image `a` of the block at grid point `t`. -/
def image (a : Fin 16) : Fin 64 := ⟨t.val * 16 + a.val, by have := point_lt t; omega⟩

/-- The logit window is at block `t` of the images. -/
theorem index0 : ∀ t : Fin cfg0.N, win0_0.index t = ![0, t.val, 0] := (by decide +kernel : ∀ t : Fin grid0.N, _)
/-- The class window is at block `t` of the images. -/
theorem index1 : ∀ t : Fin cfg0.N, win0_1.index t = ![t.val, 0] := (by decide +kernel : ∀ t : Fin grid0.N, _)
/-- The window of the predicted boxes is at block `t` of the images. -/
theorem index2 : ∀ t : Fin cfg0.N, win0_2.index t = ![t.val, 0, 0] := (by decide +kernel : ∀ t : Fin grid0.N, _)
/-- The window of the target boxes is at block `t` of the images. -/
theorem index3 : ∀ t : Fin cfg0.N, win0_3.index t = ![t.val, 0, 0] := (by decide +kernel : ∀ t : Fin grid0.N, _)

/-- The logit block's entry is the argument's at the block's image. -/
theorem logit_read (k : Fin 151) (a : Fin 16) (q : Fin 200) :
    iblk m c 0 t (ix3 k a q) = (data m c).logit (image t a) q k := by
  unfold data image
  dsimp only
  blk_point [iblk, V, index0 t]

/-- The class block's entry is the argument's at the block's image. -/
theorem cls_read (a : Fin 16) (q : Fin 200) :
    iblk m c 1 t (ix2 a q) = (data m c).cls (image t a) q := by
  unfold data image
  dsimp only
  blk_point [iblk, V, index1 t]

/-- The entry of the block of predicted boxes is the argument's at the block's image. -/
theorem pred_read (a : Fin 16) (x : Fin 4) (q : Fin 200) :
    iblk m c 2 t (ix3 a x q) = (data m c).pred (image t a) q x := by
  unfold data image
  dsimp only
  blk_point [iblk, V, index2 t]

/-- The entry of the block of target boxes is the argument's at the block's image. -/
theorem target_read (a : Fin 16) (x : Fin 4) (q : Fin 200) :
    iblk m c 3 t (ix3 a x q) = (data m c).target (image t a) q x := by
  unfold data image
  dsimp only
  blk_point [iblk, V, index3 t]

end Cert.Loss.Block

end
-- ==== Proof.KernelValue.lean ====
/- What the kernel's output array holds at the end: the three losses of the detection set. -/
module

public import proofs.«01_k».proof.Proof.Steps
public import proofs.«01_k».proof.Proof.Reads

@[expose] public section

set_option maxRecDepth 16384

noncomputable section

namespace Cert.Loss.Block

open Cert.KernelIdeal Cert.KernelIdeal.Gen Idealize.ShloMosaic Idealize.ShloMosaic.TcCoe Idealize.SL.Sem

variable (m : (ℓ : Loc nD τ sig) → Buf (Elt Ideal) ℓ) (c : Dev nD)

/-- At an entry of the block at point `t`, the focal terms of the block are those of the query. -/
theorem ce_term (t : Fin cfg0.N) (j : S16x200.Idx) :
    (∑ k : Fin 151, term (iblk m c 0 t) (iblk m c 1 t) j k) = (data m c).focalQuery (image t (j 0)) (j 1) := by
  refine Finset.sum_congr rfl fun k _ => ?_
  unfold term Data.focalAt
  rw [← logit_read m c t k (j 0) (j 1), ← cls_read m c t (j 0) (j 1)]
  exact congrArg (fun i => focal (IntOp.cmpi .eq _ (iblk m c 1 t i)) _) (by blk_ext)

/-- At an entry of the block at point `t`, the class of the block is that of the query. -/
theorem hit_term (t : Fin cfg0.N) (j : S16x200.Idx) :
    hit (iblk m c 1 t j) = (data m c).hitQuery (image t (j 0)) (j 1) := by
  unfold Data.hitQuery
  rw [← cls_read m c t (j 0) (j 1)]
  exact congrArg (fun i => hit (iblk m c 1 t i)) (by blk_ext)

/-- At an entry of the block at point `t`, the L1 loss of the block is that of the query. -/
theorem l1_term (t : Fin cfg0.N) (j : S16x200.Idx) :
    l1Loss (fun x => iblk m c 2 t (ix3 (j 0) x (j 1))) (fun x => iblk m c 3 t (ix3 (j 0) x (j 1))) * hit (iblk m c 1 t j)
      = (data m c).l1Query (image t (j 0)) (j 1) := by
  rw [hit_term]
  exact congrArg₂ (fun p t => l1Loss p t * _) (funext fun x => pred_read m c t (j 0) x (j 1))
    (funext fun x => target_read m c t (j 0) x (j 1))

/-- At an entry of the block at point `t`, the GIoU loss of the block is that of the query. -/
theorem gi_term (t : Fin cfg0.N) (j : S16x200.Idx) :
    giouLoss (fun x => iblk m c 2 t (ix3 (j 0) x (j 1))) (fun x => iblk m c 3 t (ix3 (j 0) x (j 1))) * hit (iblk m c 1 t j)
      = (data m c).giouQuery (image t (j 0)) (j 1) := by
  rw [hit_term]
  exact congrArg₂ (fun p t => giouLoss p t * _) (funext fun x => pred_read m c t (j 0) x (j 1))
    (funext fun x => target_read m c t (j 0) x (j 1))

/-- The focal accumulator after the last point: per entry the sum over the four points. -/
theorem ce_last (j : S16x200.Idx) :
    (outsAt0 m c t0_3.val t0_3.isLt).1 j
      = (show EReal from 0) + ∑ t : Fin cfg0.N, (data m c).focalQuery (image t (j 0)) (j 1) :=
  Pipeline.eq_sum_fin_of_reset_step_apply_last (fun n h => (outsAt0 m c n h).1) 4 (fun _ => (0 : EReal))
    (fun t j => (data m c).focalQuery (image t (j 0)) (j 1))
    (fun t h j => by
      rw [← ce_term m c t j]
      rw [ce_first m c t h, ceStep_apply, ceZero_apply])
    (fun t h j => by
      rw [← ce_term m c t j]
      rw [ce_next m c t h, ceStep_apply])
    (le_of_eq N_0) t0_3 rfl j

/-- The accumulator of the matched queries after the last point: per entry the sum over the four points. -/
theorem m_last (j : S16x200.Idx) :
    (outsAt0 m c t0_3.val t0_3.isLt).2.1 j
      = (show EReal from 0) + ∑ t : Fin cfg0.N, (data m c).hitQuery (image t (j 0)) (j 1) :=
  Pipeline.eq_sum_fin_of_reset_step_apply_last (fun n h => (outsAt0 m c n h).2.1) 4 (fun _ => (0 : EReal))
    (fun t j => (data m c).hitQuery (image t (j 0)) (j 1))
    (fun t h j => by
      rw [← hit_term m c t j]
      rw [m_first m c t h, mStep_apply, mZero_apply])
    (fun t h j => by
      rw [← hit_term m c t j]
      rw [m_next m c t h, mStep_apply])
    (le_of_eq N_0) t0_3 rfl j

/-- The L1 accumulator after the last point: per entry the sum over the four points. -/
theorem l1_last (j : S16x200.Idx) :
    (outsAt0 m c t0_3.val t0_3.isLt).2.2.1 j
      = (show EReal from 0) + ∑ t : Fin cfg0.N, (data m c).l1Query (image t (j 0)) (j 1) :=
  Pipeline.eq_sum_fin_of_reset_step_apply_last (fun n h => (outsAt0 m c n h).2.2.1) 4 (fun _ => (0 : EReal))
    (fun t j => (data m c).l1Query (image t (j 0)) (j 1))
    (fun t h j => by
      rw [← l1_term m c t j]
      rw [l1_first m c t h, l1Step_apply, l1Zero_apply])
    (fun t h j => by
      rw [← l1_term m c t j]
      rw [l1_next m c t h, l1Step_apply])
    (le_of_eq N_0) t0_3 rfl j

/-- The GIoU accumulator after the last point: per entry the sum over the four points. -/
theorem gi_last (j : S16x200.Idx) :
    (outsAt0 m c t0_3.val t0_3.isLt).2.2.2.1 j
      = (show EReal from 0) + ∑ t : Fin cfg0.N, (data m c).giouQuery (image t (j 0)) (j 1) :=
  Pipeline.eq_sum_fin_of_reset_step_apply_last (fun n h => (outsAt0 m c n h).2.2.2.1) 4 (fun _ => (0 : EReal))
    (fun t j => (data m c).giouQuery (image t (j 0)) (j 1))
    (fun t h j => by
      rw [← gi_term m c t j]
      rw [gi_first m c t h, giStep_apply, giZero_apply])
    (fun t h j => by
      rw [← gi_term m c t j]
      rw [gi_next m c t h, giStep_apply])
    (le_of_eq N_0) t0_3 rfl j

/-- A block whose entries are zero plus the four points' terms of a quantity of the queries has the total of
    that quantity over all the images and queries. -/
theorem total_eq (v : Vec Ideal S16x200 .f32) (f : Fin 64 → Fin 200 → EReal)
    (h : ∀ j : S16x200.Idx, v j = (show EReal from 0) + ∑ t : Fin cfg0.N, f (image t (j 0)) (j 1)) :
    total v = ∑ b, ∑ q, f b q := by
  rw [← sum_blocks f]
  refine Finset.sum_congr rfl fun a _ => Finset.sum_congr rfl fun q _ => ?_
  rw [h (ix2 a q), zero_add]
  exact Fintype.sum_equiv (finCongr N_0) _ _ fun t => rfl

/-- What the last point writes: the three losses. -/
theorem written_eq (j : S1x3.Idx) :
    (show EReal from (outsAt0 m c t0_3.val t0_3.isLt).2.2.2.2 j) = (data m c).losses (j 1) := by
  rw [out_last m c t0_3 rfl]
  refine (last_apply _ _ _ _ j).trans ?_
  rw [total_eq _ _ (ce_last m c), total_eq _ _ (m_last m c), total_eq _ _ (l1_last m c), total_eq _ _ (gi_last m c)]
  exact congrArg (Ideal.div · _) (lane_sum _ _ _ (j 1))

/-- The output array after the run: the three losses. -/
theorem output_eq (j : S1x3.Idx) :
    (show EReal from (dats m 0 c).arrAt 8 cfg0.N j) = (data m c).losses (j 1) := by
  refine congrFun ((dats m 0 c).arrAt_eq_of_after_last 8 t0_3 (by decide +kernel) (fun j => (data m c).losses (j 1))
    fun j => ?_) j
  blk_simp
  rw [after0_8]
  exact written_eq m c j

end Cert.Loss.Block

end
-- ==== Proof.Mean.lean ====
/- Averaging over the queries and multiplying by their number again, over the extended reals. -/
module

public import proofs.«01_k».proof.Proof.Scalar

@[expose] public section

noncomputable section

namespace Cert.Loss

open Idealize.ShloMosaic

/-- A factor moves out of a sum of numbers none of which is negative. -/
theorem sum_mul_of_nonneg {ι : Type} (s : Finset ι) (f : ι → EReal) (hf : ∀ i, 0 ≤ f i) (r : EReal) :
    ∑ i ∈ s, f i * r = (∑ i ∈ s, f i) * r := by
  classical
  induction s using Finset.induction_on with
  | empty => rw [Finset.sum_empty, Finset.sum_empty, zero_mul]
  | insert a s ha ih =>
    rw [Finset.sum_insert ha, Finset.sum_insert ha, ih,
      EReal.right_distrib_of_nonneg (hf a) (Finset.sum_nonneg fun i _ => hf i)]

/-- The division by two hundred is the product with the inverse. -/
theorem div_twoHundred (x : EReal) : Ideal.div x (Ideal.ofBits .f32 0x43480000#32) = x * ((200 : ℝ) : EReal)⁻¹ := by
  rw [twoHundred, Ideal.div, if_neg (by exact_mod_cast (by norm_num : (200 : ℝ) ≠ 0))]

/-- The product of the inverse of two hundred with two hundred is one. -/
theorem inv_twoHundred : ((200 : ℝ) : EReal)⁻¹ * ((200 : ℝ) : EReal) = 1 := by
  rw [← EReal.coe_inv, ← EReal.coe_mul, inv_mul_cancel₀ (by norm_num), EReal.coe_one]

/-- Numbers none of which is negative, per image, query and class: their means over the queries, summed over the
    images and classes, divided by `n` and multiplied by the number of queries, are their sum divided by `n`. -/
theorem mean_sum (f : Fin 64 → Fin 200 → Fin 151 → EReal) (hf : ∀ b q k, 0 ≤ f b q k) (n : EReal) (hn : n ≠ 0) :
    Ideal.div (∑ b : Fin 64, ∑ k : Fin 151, Ideal.div (∑ q : Fin 200, f b q k) (Ideal.ofBits .f32 0x43480000#32)) n
        * Ideal.ofBits .f32 0x43480000#32
      = Ideal.div (∑ b : Fin 64, ∑ q : Fin 200, ∑ k : Fin 151, f b q k) n := by
  have h : (∑ b : Fin 64, ∑ k : Fin 151, Ideal.div (∑ q : Fin 200, f b q k) (Ideal.ofBits .f32 0x43480000#32))
      = (∑ b : Fin 64, ∑ q : Fin 200, ∑ k : Fin 151, f b q k) * ((200 : ℝ) : EReal)⁻¹ := by
    rw [← sum_mul_of_nonneg _ _ fun b => Finset.sum_nonneg fun q _ => Finset.sum_nonneg fun k _ => hf b q k]
    refine Finset.sum_congr rfl fun b _ => ?_
    rw [Finset.sum_comm, ← sum_mul_of_nonneg _ _ fun k => Finset.sum_nonneg fun q _ => hf b q k]
    exact Finset.sum_congr rfl fun k _ => div_twoHundred _
  rw [h, Ideal.div, if_neg hn, Ideal.div, if_neg hn, twoHundred, mul_right_comm,
    mul_assoc (∑ b : Fin 64, ∑ q : Fin 200, ∑ k : Fin 151, f b q k) (((200 : ℝ) : EReal)⁻¹), inv_twoHundred, mul_one]

end Cert.Loss

end
-- ==== Proof.RefValue.lean ====
/- What the reference computes: the three losses of the detection set. -/
module

public import proofs.«01_k».proof.Proof.Gen.ReferenceIdeal.Run
public import proofs.«01_k».proof.Proof.Spec
public import proofs.«01_k».proof.Proof.Mean
public import Idealize.ShloMosaic.Lib.Pipeline.ValueKit
public import Idealize.ShloMosaic.Lib.Pointwise

@[expose] public section

set_option maxRecDepth 16384

noncomputable section

namespace Cert.Loss.Ref

open Cert.ReferenceIdeal Cert.ReferenceIdeal.Value Idealize.ShloMosaic Idealize.ShloMosaic.StableHlo
  Idealize.ShloMosaic.TcCoe Idealize.SL.Sem

variable (V0 : Valuation τ sig (Elt Ideal))

/-- The detection set the arguments hold. -/
def data : Data where
  logit b q k := V0 (Proc.devRef .tc main_arg0) (ix3 b q k)
  pred b q x := V0 (Proc.devRef .tc main_arg1) (ix3 b q x)
  target b q x := V0 (Proc.devRef .tc main_arg2) (ix3 b q x)
  cls b q := V0 (Proc.devRef .tc main_arg3) (ix2 b q)

/-- The test for equality does not depend on the order of its operands. -/
theorem cmpi_eq_comm (x y : BitVec 32) : IntOp.cmpi .eq x y = IntOp.cmpi .eq y x :=
  congrArg BitVec.ofBool (BEq.comm)

/-- The one-hot entry of image `b`, query `q` and class `k`. -/
theorem onehot_apply (b : Fin 64) (q : Fin 200) (k : Fin 151) :
    (show EReal from res_main_v1 V0 (ix3 b q k))
      = (((IntOp.cmpi .eq (BitVec.ofNat 32 k.val) ((data V0).cls b q)).toNat : ℝ) : EReal) := by
  pointwise [res_main_v1]
  rw [cmpi_eq_comm]
  rfl

/-- The weight of image `b` and query `q`. -/
theorem matched_apply (b : Fin 64) (q : Fin 200) :
    (show EReal from res_main_v4 V0 (ix2 b q)) = (data V0).hitQuery b q := by
  pointwise [res_main_v4]
  rfl

/-- The number of boxes. -/
theorem boxes_apply (j : S_.Idx) : (show EReal from res_main_v6 V0 j) = (data V0).boxes := by
  pointwise [res_main_v6]
  unfold Data.boxes
  simp only [← matched_apply]

/-- The loss of the logit of image `b`, query `q` and class `k`, as the reference evaluates it. -/
theorem focal_apply (b : Fin 64) (q : Fin 200) (k : Fin 151) :
    (data V0).focalAt b q k = focalRef (show EReal from res_main_v1 V0 (ix3 b q k)) ((data V0).logit b q k) := by
  rw [onehot_apply, Data.focalAt, focal_eq]

/-- The lower bound of the reference's clips is zero. -/
theorem clip_eq (x : EReal) : max (show EReal from id (constant (F := Ideal) S_ .f32 0#32) ix0) x = max x 0 := by
  have h : (show EReal from constant (F := Ideal) S_ .f32 0#32 ix0) = 0 := by pointwise
  rw [max_comm]
  exact congrArg (max x) h

/-- The reference's area of the intersection of the two boxes of image `b` and query `q`. -/
theorem inter_apply (b : Fin 64) (q : Fin 200) :
    (show EReal from res_main_v122 V0 (ix2 b q)) = inter ((data V0).pred b q) ((data V0).target b q) := by
  pointwise [res_main_v122, res_main_v117, res_main_v54, res_main_v55, res_main_v56, res_main_v57, res_main_v70,
    res_main_v71, res_main_v72, res_main_v73, res_main_v74, res_main_v87, fn_main_v70, fn_main_v87]
  exact congrArg₂ (· * ·) (clip_eq _) (clip_eq _)

/-- The reference's area of the union of the two boxes of image `b` and query `q`. -/
theorem union_apply (b : Fin 64) (q : Fin 200) :
    (show EReal from res_main_v124 V0 (ix2 b q)) = union ((data V0).pred b q) ((data V0).target b q) := by
  unfold union
  rw [← inter_apply]
  pointwise [res_main_v124, res_main_v54, res_main_v55, res_main_v56, res_main_v57, res_main_v70,
    res_main_v71, res_main_v72, res_main_v73, res_main_v74, res_main_v87, fn_main_v70, fn_main_v87]
  rfl

/-- The reference's area of the smallest box around the two boxes of image `b` and query `q`. -/
theorem hull_apply (b : Fin 64) (q : Fin 200) :
    (show EReal from res_main_v140 V0 (ix2 b q)) = hull ((data V0).pred b q) ((data V0).target b q) := by
  pointwise [res_main_v140, res_main_v135, res_main_v54, res_main_v55, res_main_v56, res_main_v57, res_main_v70,
    res_main_v71, res_main_v72, res_main_v73, res_main_v74, res_main_v87, fn_main_v70, fn_main_v87]
  exact congrArg₂ (· * ·) (clip_eq _) (clip_eq _)

/-- The number of boxes is not zero. -/
theorem boxes_ne_zero (D : Data) : D.boxes ≠ 0 :=
  (lt_of_lt_of_le zero_lt_one (le_max_right _ _)).ne'

/-- The weighted GIoU loss of image `b` and query `q` from the reference's areas. -/
theorem giouQuery_apply (b : Fin 64) (q : Fin 200) :
    (data V0).giouQuery b q
      = (1 - (Ideal.div (show EReal from res_main_v122 V0 (ix2 b q)) ((show EReal from res_main_v124 V0 (ix2 b q)) + eps)
        - Ideal.div ((show EReal from res_main_v140 V0 (ix2 b q)) - (show EReal from res_main_v124 V0 (ix2 b q)))
          ((show EReal from res_main_v140 V0 (ix2 b q)) + eps))) * (show EReal from res_main_v4 V0 (ix2 b q)) := by
  rw [inter_apply, union_apply, hull_apply, matched_apply]
  rfl

/-- The weighted L1 loss of image `b` and query `q` with the reference's weight. -/
theorem l1Query_apply (b : Fin 64) (q : Fin 200) :
    (data V0).l1Query b q
      = l1Loss ((data V0).pred b q) ((data V0).target b q) * (show EReal from res_main_v4 V0 (ix2 b q)) := by
  rw [matched_apply]
  rfl

/-- The focal loss as its sum. -/
theorem losses_zero (D : Data) : D.losses 0 = Ideal.div (∑ b, ∑ q, D.focalQuery b q) D.boxes := rfl

/-- The L1 loss as its sum. -/
theorem losses_one (D : Data) : D.losses 1 = Ideal.div (∑ b, ∑ q, D.l1Query b q) D.boxes := rfl

/-- The GIoU loss as its sum. -/
theorem losses_two (D : Data) : D.losses 2 = Ideal.div (∑ b, ∑ q, D.giouQuery b q) D.boxes := rfl

/-- The reference's three results are the three losses. -/
theorem result_apply (j : S1x3.Idx) :
    (show EReal from val4 V0 (Proc.devRef .tc main_v155) j) = (data V0).losses (j 1) := by
  have hb : (show EReal from res_main_v6 V0 ix0) = (data V0).boxes := boxes_apply V0 ix0
  have hlt : (j 1).val < 3 := (j 1).isLt
  rw [val4_main_v155]
  pointwise [res_main_v12]
  split_ifs with h0 h1
  · have hl : j 1 = (0 : Fin 3) := Fin.ext (by
      show (j 1).val = 0
      omega)
    refine Eq.trans ?_ (congrArg (data V0).losses hl).symm
    refine Eq.trans ?_ (mean_sum (data V0).focalAt (fun b q k => focal_nonneg _ _) (data V0).boxes (boxes_ne_zero _))
    simp only [focal_apply]
    rw [← hb]
    rfl
  · have hl : j 1 = (1 : Fin 3) := Fin.ext (by
      show (j 1).val = 1
      omega)
    refine Eq.trans ?_ (congrArg (data V0).losses hl).symm
    rw [losses_one]
    simp only [l1Query_apply]
    rw [← hb]
    rfl
  · have hl : j 1 = (2 : Fin 3) := Fin.ext (by
      show (j 1).val = 2
      omega)
    refine Eq.trans ?_ (congrArg (data V0).losses hl).symm
    rw [losses_two]
    simp only [giouQuery_apply]
    rw [← hb]

end Cert.Loss.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.StableHlo Idealize.SL.Sem

/-- The reference's run ends with its arguments unchanged and every semaphore at zero. -/
theorem reference_frame :
    Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- From equal arguments the kernel and the reference speak of the same detection set. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.Loss.Ref.data (launchContents m' c) = Cert.Loss.Block.data m c := by
  obtain ⟨h0, h1, h2, h3⟩ := h
  unfold Cert.Loss.Ref.data Cert.Loss.Block.data
  congr 1
  · funext b q k
    exact congrFun h0 (ix3 b q k)
  · funext b q x
    exact congrFun h1 (ix3 b q x)
  · funext b q x
    exact congrFun h2 (ix3 b q x)
  · funext b q
    exact congrFun h3 (ix2 b q)

/-- The kernel and the reference end with the same three losses. -/
theorem same_losses : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 8 Cert.KernelIdeal.cfg0.N, ?_, ?_⟩
  · exact (θ_run Cert.KernelIdeal.defs _ _).mono (fun r h c => (h c).2.2.2.2) (Cert.KernelIdeal.Value.run_blocks m g)
  · refine (θ_run Cert.ReferenceIdeal.defs _ _).mono (fun r h c => ⟨(h c).1.trans ?_, (h c).2⟩)
      (Cert.ReferenceIdeal.Value.run m' g')
    refine (Cert.ReferenceIdeal.Value.val4_main_v155 (launchContents m' c)).symm.trans (funext fun j => ?_)
    refine (Cert.Loss.Ref.result_apply (launchContents m' c) j).trans ?_
    rw [data_eq m m' c (hagree c)]
    exact (Cert.Loss.Block.output_eq m c j).symm

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    same_losses⟩

end Cert.Proof

end
